-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v71_1)) (v4 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v71_1) = v3 c
          ∧ r.2.mem ((c.tc : Thread Cert.KernelIdeal.nD Cert.KernelIdeal.τ).loc Cert.KernelIdeal.main_v62) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58_0) = v0 c
          ∧ r.2.mem ((c.tc : Thread Cert.ReferenceIdeal.nD Cert.ReferenceIdeal.τ).loc Cert.ReferenceIdeal.main_v58_1) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v58_2) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x1920 : Shape := ⟨3, ![6, 1024, 1920]⟩
abbrev S6x1024x5376 : Shape := ⟨3, ![6, 1024, 5376]⟩
abbrev S6144x1920 : Shape := ⟨2, ![6144, 1920]⟩
abbrev S6144x5376 : Shape := ⟨2, ![6144, 5376]⟩
abbrev S1x1 : Shape := ⟨2, ![1, 1]⟩
abbrev S256x1920 : Shape := ⟨2, ![256, 1920]⟩
abbrev S256x5376 : Shape := ⟨2, ![256, 5376]⟩
abbrev S16x1920 : Shape := ⟨2, ![16, 1920]⟩
abbrev S16x5376 : Shape := ⟨2, ![16, 5376]⟩
abbrev S16x16x1920 : Shape := ⟨3, ![16, 16, 1920]⟩
abbrev S16x16x5376 : Shape := ⟨3, ![16, 16, 5376]⟩
abbrev S1x16x1920 : Shape := ⟨3, ![1, 16, 1920]⟩
abbrev S1 : Shape := ⟨1, ![1]⟩
abbrev S1x1x1 : Shape := ⟨3, ![1, 1, 1]⟩
abbrev S1x16x5376 : Shape := ⟨3, ![1, 16, 5376]⟩
abbrev S_ : Shape := ⟨0, ![]⟩
abbrev S252 : Shape := ⟨1, ![252]⟩
abbrev S1x252 : Shape := ⟨2, ![1, 252]⟩
abbrev S1920x6144 : Shape := ⟨2, ![1920, 6144]⟩
abbrev S512x1920 : Shape := ⟨2, ![512, 1920]⟩
abbrev S1920x512 : Shape := ⟨2, ![1920, 512]⟩
abbrev S1920x5376 : Shape := ⟨2, ![1920, 5376]⟩
abbrev S5376x6144 : Shape := ⟨2, ![5376, 6144]⟩
abbrev S6144x256 : Shape := ⟨2, ![6144, 256]⟩
abbrev S1920x256 : Shape := ⟨2, ![1920, 256]⟩
abbrev S256x6144 : Shape := ⟨2, ![256, 6144]⟩

abbrev nBuf : Space → Nat
  | .hbm => 112
  | .vmem => 19
  | .smem => 3
  | _ => 0

abbrev bufTy : (tb : Table) → Fin (tcTables nBuf tb) → BufTy
  | .hbm, ⟨0, _⟩ => ⟨S6x1024x1920, .bf16⟩
  | .hbm, ⟨1, _⟩ => ⟨S6x1024x5376, .bf16⟩
  | .hbm, ⟨2, _⟩ => ⟨S6144x1920, .bf16⟩
  | .hbm, ⟨3, _⟩ => ⟨S6144x5376, .bf16⟩
  | .hbm, ⟨4, _⟩ => ⟨S1x1, .f32⟩
  | .hbm, ⟨5, _⟩ => ⟨S1x1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S252, .i32⟩
  | .hbm, ⟨11, _⟩ => ⟨S_, .i32⟩
  | .hbm, ⟨12, _⟩ => ⟨S252, .i32⟩
  | .hbm, ⟨13, _⟩ => ⟨S252, .i32⟩
  | .hbm, ⟨14, _⟩ => ⟨S_, .i32⟩
  | .hbm, ⟨15, _⟩ => ⟨S252, .i32⟩
  | .hbm, ⟨16, _⟩ => ⟨S252, .i32⟩
  | .hbm, ⟨17, _⟩ => ⟨S_, .i32⟩
  | .hbm, ⟨18, _⟩ => ⟨S252, .i32⟩
  | .hbm, ⟨19, _⟩ => ⟨S252, .i32⟩
  | .hbm, ⟨20, _⟩ => ⟨S252, .f32⟩
  | .hbm, ⟨21, _⟩ => ⟨S1x252, .f32⟩
  | .hbm, ⟨22, _⟩ => ⟨S1x1, .f32⟩
  | .hbm, ⟨23, _⟩ => ⟨S1x252, .f32⟩
  | .hbm, ⟨24, _⟩ => ⟨S1x252, .i1⟩
  | .hbm, ⟨25, _⟩ => ⟨S_, .i32⟩
  | .hbm, ⟨26, _⟩ => ⟨S252, .i32⟩
  | .hbm, ⟨27, _⟩ => ⟨S252, .i32⟩
  | .hbm, ⟨28, _⟩ => ⟨S_, .i32⟩
  | .hbm, ⟨29, _⟩ => ⟨S_, .i32⟩
  | .hbm, ⟨30, _⟩ => ⟨S1x252, .i32⟩
  | .hbm, ⟨31, _⟩ => ⟨S1x252, .i32⟩
  | .hbm, ⟨32, _⟩ => ⟨S1x252, .i32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S1, .f32⟩
  | .hbm, ⟨37, _⟩ => ⟨S1, .i1⟩
  | .hbm, ⟨38, _⟩ => ⟨S_, .i32⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .f32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S1, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S1, .f32⟩
  | .hbm, ⟨61, _⟩ => ⟨S252, .i32⟩
  | .hbm, ⟨62, _⟩ => ⟨S_, .i32⟩
  | .hbm, ⟨63, _⟩ => ⟨S252, .i32⟩
  | .hbm, ⟨64, _⟩ => ⟨S252, .i32⟩
  | .hbm, ⟨65, _⟩ => ⟨S_, .i32⟩
  | .hbm, ⟨66, _⟩ => ⟨S252, .i32⟩
  | .hbm, ⟨67, _⟩ => ⟨S252, .i32⟩
  | .hbm, ⟨68, _⟩ => ⟨S_, .i32⟩
  | .hbm, ⟨69, _⟩ => ⟨S252, .i32⟩
  | .hbm, ⟨70, _⟩ => ⟨S252, .i32⟩
  | .hbm, ⟨71, _⟩ => ⟨S252, .f32⟩
  | .hbm, ⟨72, _⟩ => ⟨S1x252, .f32⟩
  | .hbm, ⟨73, _⟩ => ⟨S1x1, .f32⟩
  | .hbm, ⟨74, _⟩ => ⟨S1x252, .f32⟩
  | .hbm, ⟨75, _⟩ => ⟨S1x252, .i1⟩
  | .hbm, ⟨76, _⟩ => ⟨S_, .i32⟩
  | .hbm, ⟨77, _⟩ => ⟨S252, .i32⟩
  | .hbm, ⟨78, _⟩ => ⟨S252, .i32⟩
  | .hbm, ⟨79, _⟩ => ⟨S_, .i32⟩
  | .hbm, ⟨80, _⟩ => ⟨S_, .i32⟩
  | .hbm, ⟨81, _⟩ => ⟨S1x252, .i32⟩
  | .hbm, ⟨82, _⟩ => ⟨S1x252, .i32⟩
  | .hbm, ⟨83, _⟩ => ⟨S1x252, .i32⟩
  | .hbm, ⟨84, _⟩ => ⟨S_, .i32⟩
  | .hbm, ⟨85, _⟩ => ⟨S1, .i32⟩
  | .hbm, ⟨86, _⟩ => ⟨S_, .f32⟩
  | .hbm, ⟨87, _⟩ => ⟨S1, .f32⟩
  | .hbm, ⟨88, _⟩ => ⟨S1, .i1⟩
  | .hbm, ⟨89, _⟩ => ⟨S_, .i32⟩
  | .hbm, ⟨90, _⟩ => ⟨S_, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S_, .i32⟩
  | .hbm, ⟨97, _⟩ => ⟨S1, .i32⟩
  | .hbm, ⟨98, _⟩ => ⟨S1, .i32⟩
  | .hbm, ⟨99, _⟩ => ⟨S1, .f32⟩
  | .hbm, ⟨100, _⟩ => ⟨S1, .i32⟩
  | .hbm, ⟨101, _⟩ => ⟨S_, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i32⟩
  | .hbm, ⟨107, _⟩ => ⟨S1, .f32⟩
  | .hbm, ⟨108, _⟩ => ⟨S1920x6144, .fp8e4m3⟩
  | .hbm, ⟨109, _⟩ => ⟨S1, .f32⟩
  | .hbm, ⟨110, _⟩ => ⟨S1920x5376, .f32⟩
  | .hbm, ⟨111, _⟩ => ⟨S5376x6144, .fp8e5m2⟩
  | .local _ .vmem, ⟨0, _⟩ => ⟨S256x1920, .bf16⟩
  | .local _ .vmem, ⟨1, _⟩ => ⟨S256x1920, .bf16⟩
  | .local _ .vmem, ⟨2, _⟩ => ⟨S256x5376, .bf16⟩
  | .local _ .vmem, ⟨3, _⟩ => ⟨S256x5376, .bf16⟩
  | .local _ .vmem, ⟨4, _⟩ => ⟨S1x1, .f32⟩
  | .local _ .vmem, ⟨5, _⟩ => ⟨S1x1, .f32⟩
  | .local _ .vmem, ⟨6, _⟩ => ⟨S16x1920, .bf16⟩
  | .local _ .vmem, ⟨7, _⟩ => ⟨S16x5376, .bf16⟩
  | .local _ .vmem, ⟨8, _⟩ => ⟨S512x1920, .bf16⟩
  | .local _ .vmem, ⟨9, _⟩ => ⟨S512x1920, .bf16⟩
  | .local _ .vmem, ⟨10, _⟩ => ⟨S1920x512, .fp8e4m3⟩
  | .local _ .vmem, ⟨11, _⟩ => ⟨S1920x512, .fp8e4m3⟩
  | .local _ .vmem, ⟨12, _⟩ => ⟨S1920x6144, .fp8e4m3⟩
  | .local _ .vmem, ⟨13, _⟩ => ⟨S6144x256, .bf16⟩
  | .local _ .vmem, ⟨14, _⟩ => ⟨S6144x256, .bf16⟩
  | .local _ .vmem, ⟨15, _⟩ => ⟨S1920x256, .f32⟩
  | .local _ .vmem, ⟨16, _⟩ => ⟨S1920x256, .f32⟩
  | .local _ .vmem, ⟨17, _⟩ => ⟨S256x6144, .fp8e5m2⟩
  | .local _ .vmem, ⟨18, _⟩ => ⟨S256x6144, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S6x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_c_16 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v53 : Ref sig .tc := ⟨.hbm, 83, rfl⟩
abbrev main_c_17 : Ref sig .tc := ⟨.hbm, 84, rfl⟩
abbrev main_v54 : Ref sig .tc := ⟨.hbm, 85, rfl⟩
abbrev main_cst_18 : Ref sig .tc := ⟨.hbm, 86, rfl⟩
abbrev main_v55 : Ref sig .tc := ⟨.hbm, 87, rfl⟩
abbrev main_v56 : Ref sig .tc := ⟨.hbm, 88, rfl⟩
abbrev main_c_19 : Ref sig .tc := ⟨.hbm, 89, rfl⟩
abbrev main_call3_v0 : Ref sig .tc := ⟨.hbm, 90, rfl⟩
abbrev main_call3_v1 : Ref sig .tc := ⟨.hbm, 91, rfl⟩
abbrev main_v57 : Ref sig .tc := ⟨.hbm, 92, rfl⟩
abbrev main_c_20 : Ref sig .tc := ⟨.hbm, 93, rfl⟩
abbrev main_v58 : Ref sig .tc := ⟨.hbm, 94, rfl⟩
abbrev main_v59 : Ref sig .tc := ⟨.hbm, 95, rfl⟩
abbrev main_c_21 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_22 : Ref sig .tc := ⟨.hbm, 101, rfl⟩
abbrev main_v64 : Ref sig .tc := ⟨.hbm, 102, rfl⟩
abbrev main_v65 : Ref sig .tc := ⟨.hbm, 103, rfl⟩
abbrev main_c_23 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71_0 : Ref sig .tc := ⟨.hbm, 110, rfl⟩
abbrev main_v71_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg5_1 : Ref sig .tc := ⟨.vmem, 18, rfl⟩
abbrev cc1_stg0_0 : Ref sig .tc := ⟨.smem, 0, rfl⟩
abbrev cc2_stg0_0 : Ref sig .tc := ⟨.smem, 1, rfl⟩
abbrev cc2_stg1_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v23 : BitVec 1 := Scalar.cmpi .eq arg0 c23_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![12], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x1920 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1920x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![21], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1920x6144 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6144x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1920x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x6144 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S6x1024x1920 : Shape := ⟨3, ![6, 1024, 1920]⟩
abbrev S6x1024x5376 : Shape := ⟨3, ![6, 1024, 5376]⟩
abbrev S6144x1920 : Shape := ⟨2, ![6144, 1920]⟩
abbrev S1920x6144 : Shape := ⟨2, ![1920, 6144]⟩
abbrev S6144x5376 : Shape := ⟨2, ![6144, 5376]⟩
abbrev S5376x6144 : Shape := ⟨2, ![5376, 6144]⟩
abbrev S_ : Shape := ⟨0, ![]⟩
abbrev S1 : Shape := ⟨1, ![1]⟩
abbrev S252 : Shape := ⟨1, ![252]⟩
abbrev S1x1 : Shape := ⟨2, ![1, 1]⟩
abbrev S1920x5376 : Shape := ⟨2, ![1920, 5376]⟩

abbrev nBuf : Space → Nat
  | .hbm => 91
  | .vmem => 9
  | .smem => 0
  | _ => 0

abbrev bufTy : (tb : Table) → Fin (tcTables nBuf tb) → BufTy
  | .hbm, ⟨0, _⟩ => ⟨S6x1024x1920, .bf16⟩
  | .hbm, ⟨1, _⟩ => ⟨S6x1024x5376, .bf16⟩
  | .hbm, ⟨2, _⟩ => ⟨S6144x1920, .bf16⟩
  | .hbm, ⟨3, _⟩ => ⟨S1920x6144, .bf16⟩
  | .hbm, ⟨4, _⟩ => ⟨S6144x5376, .bf16⟩
  | .hbm, ⟨5, _⟩ => ⟨S5376x6144, .bf16⟩
  | .hbm, ⟨6, _⟩ => ⟨S1920x6144, .f32⟩
  | .hbm, ⟨7, _⟩ => ⟨S1920x6144, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S252, .i32⟩
  | .hbm, ⟨15, _⟩ => ⟨S_, .i32⟩
  | .hbm, ⟨16, _⟩ => ⟨S252, .i32⟩
  | .hbm, ⟨17, _⟩ => ⟨S252, .i32⟩
  | .hbm, ⟨18, _⟩ => ⟨S252, .f32⟩
  | .hbm, ⟨19, _⟩ => ⟨S_, .f32⟩
  | .hbm, ⟨20, _⟩ => ⟨S252, .f32⟩
  | .hbm, ⟨21, _⟩ => ⟨S252, .f32⟩
  | .hbm, ⟨22, _⟩ => ⟨S252, .f32⟩
  | .hbm, ⟨23, _⟩ => ⟨S252, .i1⟩
  | .hbm, ⟨24, _⟩ => ⟨S_, .f32⟩
  | .hbm, ⟨25, _⟩ => ⟨S_, .f32⟩
  | .hbm, ⟨26, _⟩ => ⟨S252, .f32⟩
  | .hbm, ⟨27, _⟩ => ⟨S252, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .i1⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S5376x6144, .f32⟩
  | .hbm, ⟨46, _⟩ => ⟨S5376x6144, .f32⟩
  | .hbm, ⟨47, _⟩ => ⟨S_, .f32⟩
  | .hbm, ⟨48, _⟩ => ⟨S_, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S252, .i32⟩
  | .hbm, ⟨54, _⟩ => ⟨S_, .i32⟩
  | .hbm, ⟨55, _⟩ => ⟨S252, .i32⟩
  | .hbm, ⟨56, _⟩ => ⟨S252, .i32⟩
  | .hbm, ⟨57, _⟩ => ⟨S252, .f32⟩
  | .hbm, ⟨58, _⟩ => ⟨S_, .f32⟩
  | .hbm, ⟨59, _⟩ => ⟨S252, .f32⟩
  | .hbm, ⟨60, _⟩ => ⟨S252, .f32⟩
  | .hbm, ⟨61, _⟩ => ⟨S252, .f32⟩
  | .hbm, ⟨62, _⟩ => ⟨S252, .i1⟩
  | .hbm, ⟨63, _⟩ => ⟨S_, .f32⟩
  | .hbm, ⟨64, _⟩ => ⟨S_, .f32⟩
  | .hbm, ⟨65, _⟩ => ⟨S252, .f32⟩
  | .hbm, ⟨66, _⟩ => ⟨S252, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S1, .i1⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S1, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S_, .f32⟩
  | .hbm, ⟨82, _⟩ => ⟨S1, .f32⟩
  | .hbm, ⟨83, _⟩ => ⟨S1, .f32⟩
  | .hbm, ⟨84, _⟩ => ⟨S1x1, .f32⟩
  | .hbm, ⟨85, _⟩ => ⟨S1x1, .f32⟩
  | .hbm, ⟨86, _⟩ => ⟨S1x1, .f32⟩
  | .hbm, ⟨87, _⟩ => ⟨S1x1, .f32⟩
  | .hbm, ⟨88, _⟩ => ⟨S1920x5376, .f32⟩
  | .hbm, ⟨89, _⟩ => ⟨S1920x6144, .fp8e4m3⟩
  | .hbm, ⟨90, _⟩ => ⟨S5376x6144, .fp8e5m2⟩
  | .local _ .vmem, ⟨0, _⟩ => ⟨S1920x6144, .bf16⟩
  | .local _ .vmem, ⟨1, _⟩ => ⟨S5376x6144, .bf16⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1920x5376, .f32⟩
  | .local _ .vmem, ⟨7, _⟩ => ⟨S1920x6144, .fp8e4m3⟩
  | .local _ .vmem, ⟨8, _⟩ => ⟨S5376x6144, .fp8e5m2⟩
  | _, _ => ⟨S6x1024x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_call2_v0 : Ref sig .tc := ⟨.hbm, 64, rfl⟩
abbrev main_call2_v1 : Ref sig .tc := ⟨.hbm, 65, rfl⟩
abbrev main_v43 : Ref sig .tc := ⟨.hbm, 66, rfl⟩
abbrev main_cst_13 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_cst_15 : Ref sig .tc := ⟨.hbm, 73, rfl⟩
abbrev main_call3_v0 : Ref sig .tc := ⟨.hbm, 74, rfl⟩
abbrev main_call3_v1 : Ref sig .tc := ⟨.hbm, 75, rfl⟩
abbrev main_v48 : Ref sig .tc := ⟨.hbm, 76, rfl⟩
abbrev main_cst_16 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58_0 : Ref sig .tc := ⟨.hbm, 88, rfl⟩
abbrev main_v58_1 : Ref sig .tc := ⟨.hbm, 89, rfl⟩
abbrev main_v58_2 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1920x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x5376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5376x6144 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.AmaxRuns.lean ====
/- The first pallas_call, `cc0_amax`: its blocks, its branch conditions in closed form, and where its outputs are idle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter every statement of this module is made at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, k0_cond2, e0]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel
/-- At the points of case A the printed configuration (`Cfg.idle`) calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cfg0.idle 3 (grid0.coords t) = false := by decide +kernel

/-! ## The kernel body on any staging memrefs: a subtype the run finds -/

/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- One staging buffer of output window 3, through which its contents are stated (`View.read_writes_of_cover`: the
    choice does not matter). -/
abbrev VO0_3 : View sig .tc .vmem S1x1 .f32 := (Memref.whole cc0_stg3_0 : Memref sig .tc .vmem S1x1 .f32).view
/-- Each window's current staging memref at point `t`, spelled as the pipeline passes it (`bodyAt0`), and its wholeness. -/
abbrev ms0_0 (t : Fin cfg0.N) : Memref sig .tc .vmem S256x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5376 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S16x1920 .bf16 := Memref.whole cc0_scratch0
abbrev scM0_1 : Memref sig .tc .vmem S16x5376 .bf16 := Memref.whole cc0_scratch1
/-- The scratch `arg5` the kernel carries between points, as a view: what it holds is stated through it. -/
abbrev VS0_0 : View sig .tc .vmem S16x1920 .bf16 := scM0_0.view
/-- The scratch `arg6` the kernel carries between points, as a view: what it holds is stated through it. -/
abbrev VS0_1 : View sig .tc .vmem S16x5376 .bf16 := scM0_1.view

/-- The staging buffers of the other two calls, each at some contents: they ride through this call untouched. -/
def others (c : Dev nD) : sProp 𝕄 := iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))

/-- Separating conjunction regrouped. -/
theorem regroup (P Q R S : sProp 𝕄) : iprop((P ∗ Q ∗ R) ∗ S) = iprop((P ∗ Q) ∗ (R ∗ S)) := by
  have assoc : ∀ P Q R : sProp 𝕄, iprop((P ∗ Q) ∗ R) = iprop(P ∗ Q ∗ R) := fun P Q R =>
    equiv_iff.mp ⟨Idealize.SL.BI.sep_assoc, Idealize.SL.BI.sep_assoc'⟩
  rw [assoc, assoc, assoc]

/-- The call's invariant with the two accumulators as memrefs owned at some contents, the other calls' buffers and the
    generator register beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ iprop(others c ∗ (∃ r, prngReg c r))) := by
  unfold Pipeline.ΦA; rw [scopedRest0_eq]; simp only [scM0_0, scM0_1, owns_whole]
  exact regroup _ _ (others c) _

end Cert.KernelIdeal.Run

end
-- ==== Proof.AmaxRunA.lean ====
/- The first pallas_call's body run at the first point of its grid. -/
module

public import proofs.«01_k».proof.Proof.AmaxRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) :
    Σ' (L2 : List (View.Piece (Elt F) S1x1 .f32)), Σ' (L3 : List (View.Piece (Elt F) S1x1 .f32)), Σ' (LS0 : List (View.Piece (Elt F) S16x1920 .bf16)), { LS1 : List (View.Piece (Elt F) S16x5376 .bf16) //
      ∀ (xi2 : Vec F S1x1 .f32) (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_amax i arg1 harg1 arg2 harg2 arg3 harg3 arg4 harg4 arg5 harg5 arg6 harg6) K } := by
  refine ⟨[], [], ?_, ?_, fun xi2 xi3 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Run

end
-- ==== Proof.AmaxRunB.lean ====
/- The first pallas_call's body run at a middle point of its grid. -/
module

public import proofs.«01_k».proof.Proof.AmaxRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 22: 22 of 24), WITH the
    proof that on whole staging memrefs — the inputs' at their contents, the outputs it leaves idle (2, 3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) :
    Σ' (L2 : List (View.Piece (Elt F) S1x1 .f32)), Σ' (L3 : List (View.Piece (Elt F) S1x1 .f32)), Σ' (LS0 : List (View.Piece (Elt F) S16x1920 .bf16)), { LS1 : List (View.Piece (Elt F) S16x5376 .bf16) //
      ∀ (xi2 : Vec F S1x1 .f32) (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_amax i arg1 harg1 arg2 harg2 arg3 harg3 arg4 harg4 arg5 harg5 arg6 harg6) K } := by
  refine ⟨[], [], ?_, ?_, fun xi2 xi3 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Run

end
-- ==== Proof.AmaxRunC.lean ====
/- The first pallas_call's body run at the last point of its grid. -/
module

public import proofs.«01_k».proof.Proof.AmaxRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 23), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) :
    Σ' (L2 : List (View.Piece (Elt F) S1x1 .f32)), Σ' (L3 : List (View.Piece (Elt F) S1x1 .f32)), Σ' (LS0 : List (View.Piece (Elt F) S16x1920 .bf16)), { LS1 : List (View.Piece (Elt F) S16x5376 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0_amax i arg1 harg1 arg2 harg2 arg3 harg3 arg4 harg4 arg5 harg5 arg6 harg6) K } := by
  refine ⟨?_, ?_, ?_, ?_, fun E K => ?run⟩
  case run =>
    simp only [cc0_amax_eq_skeleton]; unfold cc0_amax_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Run

end
-- ==== Proof.RegionAmax.lean ====
/- The first pallas_call, `cc0_amax`: what every point leaves in its outputs and in the two carried accumulators, and the
   proof that every point keeps the pipeline's obligations, at any entry contents `V`. -/
module

public import proofs.«01_k».proof.Proof.AmaxRunA
public import proofs.«01_k».proof.Proof.AmaxRunB
public import proofs.«01_k».proof.Proof.AmaxRunC
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter every statement of this module is made at
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) : Vec F S1x1 .f32 :=
  VO0_2.read (Elt F) (VO0_2.writes (Elt F) VO0_2.junk (kernelRun0_A c i arg1 harg1 arg2 harg2 arg3 harg3 arg4 harg4 arg5 harg5 arg6 harg6 hc0 hc1 x0 x1).1)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) : Vec F S1x1 .f32 :=
  VO0_3.read (Elt F) (VO0_3.writes (Elt F) VO0_3.junk (kernelRun0_A c i arg1 harg1 arg2 harg2 arg3 harg3 arg4 harg4 arg5 harg5 arg6 harg6 hc0 hc1 x0 x1).2.1)

/-- Case A's pieces for scratch `arg5`, which the kernel carries between points, cover it: 2 pieces of `S16x1920` tiling it (Lib/Ring.lean `Piece.tiledL`). -/
theorem scover0_A_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) (y : S16x1920.Idx) :
    ∃ pc ∈ (kernelRun0_A c i arg1 harg1 arg2 harg2 arg3 harg3 arg4 harg4 arg5 harg5 arg6 harg6 hc0 hc1 x0 x1).2.2.1, y ∈ pc.1.set :=
  View.cover_of_tiledL (kernelRun0_A c i arg1 harg1 arg2 harg2 arg3 harg3 arg4 harg4 arg5 harg5 arg6 harg6 hc0 hc1 x0 x1).2.2.1 S16x1920.size (by sl_kernel_rfl) y

/-- What case A leaves in scratch `arg5`: its pieces read back over junk. -/
def sout0_A_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) : Vec F S16x1920 .bf16 :=
  VS0_0.read (Elt F) (VS0_0.writes (Elt F) VS0_0.junk (kernelRun0_A c i arg1 harg1 arg2 harg2 arg3 harg3 arg4 harg4 arg5 harg5 arg6 harg6 hc0 hc1 x0 x1).2.2.1)

/-- Case A's pieces for scratch `arg6`, which the kernel carries between points, cover it: 2 pieces of `S16x5376` tiling it (Lib/Ring.lean `Piece.tiledL`). -/
theorem scover0_A_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) (y : S16x5376.Idx) :
    ∃ pc ∈ (kernelRun0_A c i arg1 harg1 arg2 harg2 arg3 harg3 arg4 harg4 arg5 harg5 arg6 harg6 hc0 hc1 x0 x1).2.2.2.1, y ∈ pc.1.set :=
  View.cover_of_tiledL (kernelRun0_A c i arg1 harg1 arg2 harg2 arg3 harg3 arg4 harg4 arg5 harg5 arg6 harg6 hc0 hc1 x0 x1).2.2.2.1 S16x5376.size (by sl_kernel_rfl) y

/-- What case A leaves in scratch `arg6`: its pieces read back over junk. -/
def sout0_A_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : cond0_0 i) (hc1 : ¬cond0_1 i)
    (x0 : Vec F S256x1920 .bf16) (x1 : Vec F S256x5376 .bf16) : Vec F S16x5376 .bf16 :=
  VS0_1.read (Elt F) (VS0_1.writes (Elt F) VS0_1.junk (kernelRun0_A c i arg1 harg1 arg2 harg2 arg3 harg3 arg4 harg4 arg5 harg5 arg6 harg6 hc0 hc1 x0 x1).2.2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) : Vec F S1x1 .f32 :=
  VO0_2.read (Elt F) (VO0_2.writes (Elt F) VO0_2.junk (kernelRun0_B c i arg1 harg1 arg2 harg2 arg3 harg3 arg4 harg4 arg5 harg5 arg6 harg6 hc0 hc1 x0 x1 xs0 xs1).1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) : Vec F S1x1 .f32 :=
  VO0_3.read (Elt F) (VO0_3.writes (Elt F) VO0_3.junk (kernelRun0_B c i arg1 harg1 arg2 harg2 arg3 harg3 arg4 harg4 arg5 harg5 arg6 harg6 hc0 hc1 x0 x1 xs0 xs1).2.1)

/-- Case B's pieces for scratch `arg5`, which the kernel carries between points, cover it: 1 piece of `S16x1920` tiling it (Lib/Ring.lean `Piece.tiledL`). -/
theorem scover0_B_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) (y : S16x1920.Idx) :
    ∃ pc ∈ (kernelRun0_B c i arg1 harg1 arg2 harg2 arg3 harg3 arg4 harg4 arg5 harg5 arg6 harg6 hc0 hc1 x0 x1 xs0 xs1).2.2.1, y ∈ pc.1.set :=
  View.cover_of_tiledL (kernelRun0_B c i arg1 harg1 arg2 harg2 arg3 harg3 arg4 harg4 arg5 harg5 arg6 harg6 hc0 hc1 x0 x1 xs0 xs1).2.2.1 S16x1920.size (by sl_kernel_rfl) y

/-- What case B leaves in scratch `arg5`: its pieces read back over junk. -/
def sout0_B_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) : Vec F S16x1920 .bf16 :=
  VS0_0.read (Elt F) (VS0_0.writes (Elt F) VS0_0.junk (kernelRun0_B c i arg1 harg1 arg2 harg2 arg3 harg3 arg4 harg4 arg5 harg5 arg6 harg6 hc0 hc1 x0 x1 xs0 xs1).2.2.1)

/-- Case B's pieces for scratch `arg6`, which the kernel carries between points, cover it: 1 piece of `S16x5376` tiling it (Lib/Ring.lean `Piece.tiledL`). -/
theorem scover0_B_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) (y : S16x5376.Idx) :
    ∃ pc ∈ (kernelRun0_B c i arg1 harg1 arg2 harg2 arg3 harg3 arg4 harg4 arg5 harg5 arg6 harg6 hc0 hc1 x0 x1 xs0 xs1).2.2.2.1, y ∈ pc.1.set :=
  View.cover_of_tiledL (kernelRun0_B c i arg1 harg1 arg2 harg2 arg3 harg3 arg4 harg4 arg5 harg5 arg6 harg6 hc0 hc1 x0 x1 xs0 xs1).2.2.2.1 S16x5376.size (by sl_kernel_rfl) y

/-- What case B leaves in scratch `arg6`: its pieces read back over junk. -/
def sout0_B_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : ¬cond0_1 i)
    (x0 : Vec F S256x1920 .bf16) (x1 : Vec F S256x5376 .bf16) (xs0 : Vec F S16x1920 .bf16) (xs1 : Vec F S16x5376 .bf16) : Vec F S16x5376 .bf16 :=
  VS0_1.read (Elt F) (VS0_1.writes (Elt F) VS0_1.junk (kernelRun0_B c i arg1 harg1 arg2 harg2 arg3 harg3 arg4 harg4 arg5 harg5 arg6 harg6 hc0 hc1 x0 x1 xs0 xs1).2.2.2.1)

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) (y : S1x1.Idx) :
    ∃ pc ∈ (kernelRun0_C c i arg1 harg1 arg2 harg2 arg3 harg3 arg4 harg4 arg5 harg5 arg6 harg6 hc0 hc1 x0 x1 xs0 xs1).1, y ∈ pc.1.set :=
  View.cover_of_tiledL (kernelRun0_C c i arg1 harg1 arg2 harg2 arg3 harg3 arg4 harg4 arg5 harg5 arg6 harg6 hc0 hc1 x0 x1 xs0 xs1).1 S1x1.size (by sl_kernel_rfl) y

/-- What case C leaves in output 2's staging buffer: its pieces read back over junk. -/
def out0_C_2 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) : Vec F S1x1 .f32 :=
  VO0_2.read (Elt F) (VO0_2.writes (Elt F) VO0_2.junk (kernelRun0_C c i arg1 harg1 arg2 harg2 arg3 harg3 arg4 harg4 arg5 harg5 arg6 harg6 hc0 hc1 x0 x1 xs0 xs1).1)

/-- Case C's pieces for output 3 tile its block (1 store of `S1x1`, checked by the kernel's evaluation: Lib/Ring.lean `Piece.tiledL`, linear in the pieces, through a loop's `@[irreducible]` trip theorem too), so they cover it. -/
theorem cover0_C_3 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) (y : S1x1.Idx) :
    ∃ pc ∈ (kernelRun0_C c i arg1 harg1 arg2 harg2 arg3 harg3 arg4 harg4 arg5 harg5 arg6 harg6 hc0 hc1 x0 x1 xs0 xs1).2.1, y ∈ pc.1.set :=
  View.cover_of_tiledL (kernelRun0_C c i arg1 harg1 arg2 harg2 arg3 harg3 arg4 harg4 arg5 harg5 arg6 harg6 hc0 hc1 x0 x1 xs0 xs1).2.1 S1x1.size (by sl_kernel_rfl) y

/-- What case C leaves in output 3's staging buffer: its pieces read back over junk. -/
def out0_C_3 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) : Vec F S1x1 .f32 :=
  VO0_3.read (Elt F) (VO0_3.writes (Elt F) VO0_3.junk (kernelRun0_C c i arg1 harg1 arg2 harg2 arg3 harg3 arg4 harg4 arg5 harg5 arg6 harg6 hc0 hc1 x0 x1 xs0 xs1).2.1)

/-- Case C's pieces for scratch `arg5`, which the kernel carries between points, cover it: 1 piece of `S16x1920` tiling it (Lib/Ring.lean `Piece.tiledL`). -/
theorem scover0_C_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) (y : S16x1920.Idx) :
    ∃ pc ∈ (kernelRun0_C c i arg1 harg1 arg2 harg2 arg3 harg3 arg4 harg4 arg5 harg5 arg6 harg6 hc0 hc1 x0 x1 xs0 xs1).2.2.1, y ∈ pc.1.set :=
  View.cover_of_tiledL (kernelRun0_C c i arg1 harg1 arg2 harg2 arg3 harg3 arg4 harg4 arg5 harg5 arg6 harg6 hc0 hc1 x0 x1 xs0 xs1).2.2.1 S16x1920.size (by sl_kernel_rfl) y

/-- What case C leaves in scratch `arg5`: its pieces read back over junk. -/
def sout0_C_0 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) : Vec F S16x1920 .bf16 :=
  VS0_0.read (Elt F) (VS0_0.writes (Elt F) VS0_0.junk (kernelRun0_C c i arg1 harg1 arg2 harg2 arg3 harg3 arg4 harg4 arg5 harg5 arg6 harg6 hc0 hc1 x0 x1 xs0 xs1).2.2.1)

/-- Case C's pieces for scratch `arg6`, which the kernel carries between points, cover it: 1 piece of `S16x5376` tiling it (Lib/Ring.lean `Piece.tiledL`). -/
theorem scover0_C_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) (y : S16x5376.Idx) :
    ∃ pc ∈ (kernelRun0_C c i arg1 harg1 arg2 harg2 arg3 harg3 arg4 harg4 arg5 harg5 arg6 harg6 hc0 hc1 x0 x1 xs0 xs1).2.2.2.1, y ∈ pc.1.set :=
  View.cover_of_tiledL (kernelRun0_C c i arg1 harg1 arg2 harg2 arg3 harg3 arg4 harg4 arg5 harg5 arg6 harg6 hc0 hc1 x0 x1 xs0 xs1).2.2.2.1 S16x5376.size (by sl_kernel_rfl) y

/-- What case C leaves in scratch `arg6`: its pieces read back over junk. -/
def sout0_C_1 (c : Dev nD) (i : grid0.Coords) (arg1 : Memref sig .tc .vmem S256x1920 .bf16) (harg1 : arg1.IsWhole) (arg2 : Memref sig .tc .vmem S256x5376 .bf16) (harg2 : arg2.IsWhole) (arg3 : Memref sig .tc .vmem S1x1 .f32) (harg3 : arg3.IsWhole) (arg4 : Memref sig .tc .vmem S1x1 .f32) (harg4 : arg4.IsWhole) (arg5 : Memref sig .tc .vmem S16x1920 .bf16) (harg5 : arg5.IsWhole) (arg6 : Memref sig .tc .vmem S16x5376 .bf16) (harg6 : arg6.IsWhole) (hc0 : ¬cond0_0 i) (hc1 : cond0_1 i)
    (x0 : Vec F S256x1920 .bf16) (x1 : Vec F S256x5376 .bf16) (xs0 : Vec F S16x1920 .bf16) (xs1 : Vec F S16x5376 .bf16) : Vec F S16x5376 .bf16 :=
  VS0_1.read (Elt F) (VS0_1.writes (Elt F) VS0_1.junk (kernelRun0_C c i arg1 harg1 arg2 harg2 arg3 harg3 arg4 harg4 arg5 harg5 arg6 harg6 hc0 hc1 x0 x1 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1 .f32 × Vec F S1x1 .f32 × Vec F S16x1920 .bf16 × Vec F S16x5376 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 24 = 0 then
      if h1 : (n + 1) % 24 = 23 then
        False.elim (by have hN : n + 1 < 24 := lt_of_lt_of_eq hn (show cfg0.N = 24 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 24 = 23 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 24 = 0) (h1 : ¬t.val % 24 = 23) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 24 = 0) (h1 : ¬t.val % 24 = 23) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 24 = 0) (h1 : t.val % 24 = 23) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2)) ∗ iprop(others c ∗ (∃ r, prngReg c r)))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2)) ∗ iprop(others c ∗ (∃ r, prngReg c r))) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2)) ∗ iprop(others c ∗ (∃ r, prngReg c r))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  by_cases h0 : t.val % 24 = 0
  · by_cases h1 : t.val % 24 = 23
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1; (try dsimp only)
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3
      · exfalso; have hN : t.val < 24 := lt_of_lt_of_eq t.isLt (show cfg0.N = 24 from N_0); omega
  · by_cases h1 : t.val % 24 = 23
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1)], after0_2]
      rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
      by_cases hz : t.val = 0
      · exfalso; have hN : t.val < 24 := lt_of_lt_of_eq t.isLt (show cfg0.N = 24 from N_0); omega
      · rw [PhiS_castSucc V c t, PhiS_pos V c _ _ hz]
        rw [outsAt0_C V c t h0 h1]
        unfold out0_C_2 out0_C_3 sout0_C_0 sout0_C_1; (try dsimp only)
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
        isplitl [H0]; · iexact H0
        isplitl [H1]; · iexact H1
        isplitl [H2]; · iexists _; iexact H2
        isplitl [H3]; · iexists _; iexact H3
        isplitl [HS0]; · iexact HS0
        isplitl [HS1]; · iexact HS1
        iintro ⟨H0, H1, ⟨%e2, H2⟩, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 24 := lt_of_lt_of_eq t.isLt (show cfg0.N = 24 from N_0); omega
      · rw [PhiS_castSucc V c t, PhiS_pos V c _ _ hz]
        rw [outsAt0_B V c t h0 h1]
        unfold sout0_B_0 sout0_B_1; (try dsimp only)
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2.2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _)
          iexact Hg
        isplitl [Ho]; · iexact Ho
        isplitl [H0]; · iexact H0
        isplitl [H1]; · iexact H1
        isplitl [H2]; · iexists _; iexact H2
        iexists _; iexact H3

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout0 (c : Dev nD) : (dat0 V c).Φ (Fin.last cfg0.N) ⊢ Pipeline.ΦA spec0 c :=
  Phi_out0 V c _ (by rw [Fin.val_last]; have : cfg0.N = 24 := N_0; omega)

end Cert.KernelIdeal.Run

end
-- ==== Proof.RegionXq.lean ====
/- The second pallas_call, `cc1_xq`: what its body leaves at one grid point (the run of the body on its staging buffers,
   the pieces its store writes) and the proof that every point keeps the pipeline's obligations, at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter every statement of this module is made at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S1920x512 .fp8e4m3 := (Memref.whole cc1_stg2_0 : Memref sig .tc .vmem S1920x512 .fp8e4m3).view
/-- Each window's current staging memref at point `t`, spelled as the pipeline passes it (`bodyAt1`), and its wholeness. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1920 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1920x512 .fp8e4m3 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S1 .f32) (harg1 : arg1.IsWhole) (arg2 : Memref sig .tc .vmem S512x1920 .bf16) (harg2 : arg2.IsWhole) (arg3 : Memref sig .tc .vmem S1920x512 .fp8e4m3) (harg3 : arg3.IsWhole)
    (x0 : Vec F S1 .f32) (x1 : Vec F S512x1920 .bf16) :
    { L2 : List (View.Piece (Elt F) S1920x512 .fp8e4m3) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_xq i arg1 harg1 arg2 harg2 arg3 harg3) K } := by
  refine ⟨?_, fun E K => ?run⟩
  case run =>
    simp only [cc1_xq_eq_skeleton]; unfold cc1_xq_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S1920x512`, checked by the kernel's evaluation: Lib/Ring.lean `Piece.tiledL`, linear in the pieces, through a loop's `@[irreducible]` trip theorem too), so they cover it. -/
theorem cover1_A_2 (c : Dev nD) (i : grid1.Coords) (arg1 : Memref sig .tc .smem S1 .f32) (harg1 : arg1.IsWhole) (arg2 : Memref sig .tc .vmem S512x1920 .bf16) (harg2 : arg2.IsWhole) (arg3 : Memref sig .tc .vmem S1920x512 .fp8e4m3) (harg3 : arg3.IsWhole)
    (x0 : Vec F S1 .f32) (x1 : Vec F S512x1920 .bf16) (y : S1920x512.Idx) :
    ∃ pc ∈ (kernelRun1_A c i arg1 harg1 arg2 harg2 arg3 harg3 x0 x1).1, y ∈ pc.1.set :=
  View.cover_of_tiledL (kernelRun1_A c i arg1 harg1 arg2 harg2 arg3 harg3 x0 x1).1 S1920x512.size (by sl_kernel_rfl) y

/-- What the run leaves in output 2's staging buffer: its pieces read back over junk. -/
def out1_A_2 (c : Dev nD) (i : grid1.Coords) (arg1 : Memref sig .tc .smem S1 .f32) (harg1 : arg1.IsWhole) (arg2 : Memref sig .tc .vmem S512x1920 .bf16) (harg2 : arg2.IsWhole) (arg3 : Memref sig .tc .vmem S1920x512 .fp8e4m3) (harg3 : arg3.IsWhole)
    (x0 : Vec F S1 .f32) (x1 : Vec F S512x1920 .bf16) : Vec F S1920x512 .fp8e4m3 :=
  VO1_2.read (Elt F) (VO1_2.writes (Elt F) VO1_2.junk (kernelRun1_A c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S1920x512 .fp8e4m3 :=
  out1_A_2 c (grid1.coords t) (ms1_0 t) (hs1_0 t) (ms1_1 t) (hs1_1 t) (ms1_2 t) (hs1_2 t) (iblk1 V c 0 t) (iblk1 V c 1 t)

/-! ## The pipeline's proof data -/

/-- The proof data of pipeline 0 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.RegionWgrad.lean ====
/- The third pallas_call, `cc2_wgrad`: what its body leaves at one grid point and the proof that every point keeps the
   pipeline's obligations, at any entry contents `V`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: the parameter every statement of this module is made at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 4, through which its contents are stated (`View.read_writes_of_cover`: the
    choice does not matter). -/
abbrev VO2_4 : View sig .tc .vmem S1920x256 .f32 := (Memref.whole cc2_stg4_0 : Memref sig .tc .vmem S1920x256 .f32).view
/-- One staging buffer of output window 5, through which its contents are stated (`View.read_writes_of_cover`: the
    choice does not matter). -/
abbrev VO2_5 : View sig .tc .vmem S256x6144 .fp8e5m2 := (Memref.whole cc2_stg5_0 : Memref sig .tc .vmem S256x6144 .fp8e5m2).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1920x6144 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S6144x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1920x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x6144 .fp8e5m2 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .f32) (harg1 : arg1.IsWhole) (arg2 : Memref sig .tc .smem S1 .f32) (harg2 : arg2.IsWhole) (arg3 : Memref sig .tc .vmem S1920x6144 .fp8e4m3) (harg3 : arg3.IsWhole) (arg4 : Memref sig .tc .vmem S6144x256 .bf16) (harg4 : arg4.IsWhole) (arg5 : Memref sig .tc .vmem S1920x256 .f32) (harg5 : arg5.IsWhole) (arg6 : Memref sig .tc .vmem S256x6144 .fp8e5m2) (harg6 : arg6.IsWhole)
    (x0 : Vec F S1 .f32) (x1 : Vec F S1 .f32) (x2 : Vec F S1920x6144 .fp8e4m3) (x3 : Vec F S6144x256 .bf16) :
    Σ' (L4 : List (View.Piece (Elt F) S1920x256 .f32)), { L5 : List (View.Piece (Elt F) S256x6144 .fp8e5m2) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2_wgrad i arg1 harg1 arg2 harg2 arg3 harg3 arg4 harg4 arg5 harg5 arg6 harg6) K } := by
  refine ⟨?_, ?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- The run's pieces for output 4 tile its block (1 store of `S1920x256`, checked by the kernel's evaluation: Lib/Ring.lean `Piece.tiledL`, linear in the pieces, through a loop's `@[irreducible]` trip theorem too), so they cover it. -/
theorem cover2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1920x6144 .fp8e4m3) (harg3 : arg3.IsWhole) (arg4 : Memref sig .tc .vmem S6144x256 .bf16) (harg4 : arg4.IsWhole) (arg5 : Memref sig .tc .vmem S1920x256 .f32) (harg5 : arg5.IsWhole) (arg6 : Memref sig .tc .vmem S256x6144 .fp8e5m2) (harg6 : arg6.IsWhole)
    (x0 : Vec F S1 .f32) (x1 : Vec F S1 .f32) (x2 : Vec F S1920x6144 .fp8e4m3) (x3 : Vec F S6144x256 .bf16) (y : S1920x256.Idx) :
    ∃ pc ∈ (kernelRun2_A c i arg1 harg1 arg2 harg2 arg3 harg3 arg4 harg4 arg5 harg5 arg6 harg6 x0 x1 x2 x3).1, y ∈ pc.1.set :=
  View.cover_of_tiledL (kernelRun2_A c i arg1 harg1 arg2 harg2 arg3 harg3 arg4 harg4 arg5 harg5 arg6 harg6 x0 x1 x2 x3).1 S1920x256.size (by sl_kernel_rfl) y

/-- What the run leaves in output 4's staging buffer: its pieces read back over junk. -/
def out2_A_4 (c : Dev nD) (i : grid2.Coords) (arg1 : Memref sig .tc .smem S1 .f32) (harg1 : arg1.IsWhole) (arg2 : Memref sig .tc .smem S1 .f32) (harg2 : arg2.IsWhole) (arg3 : Memref sig .tc .vmem S1920x6144 .fp8e4m3) (harg3 : arg3.IsWhole) (arg4 : Memref sig .tc .vmem S6144x256 .bf16) (harg4 : arg4.IsWhole) (arg5 : Memref sig .tc .vmem S1920x256 .f32) (harg5 : arg5.IsWhole) (arg6 : Memref sig .tc .vmem S256x6144 .fp8e5m2) (harg6 : arg6.IsWhole)
    (x0 : Vec F S1 .f32) (x1 : Vec F S1 .f32) (x2 : Vec F S1920x6144 .fp8e4m3) (x3 : Vec F S6144x256 .bf16) : Vec F S1920x256 .f32 :=
  VO2_4.read (Elt F) (VO2_4.writes (Elt F) VO2_4.junk (kernelRun2_A c i arg1 harg1 arg2 harg2 arg3 harg3 arg4 harg4 arg5 harg5 arg6 harg6 x0 x1 x2 x3).1)

/-- The run's pieces for output 5 tile its block (1 store of `S256x6144`, checked by the kernel's evaluation: Lib/Ring.lean `Piece.tiledL`, linear in the pieces, through a loop's `@[irreducible]` trip theorem too), so they cover it. -/
theorem cover2_A_5 (c : Dev nD) (i : grid2.Coords) (arg1 : Memref sig .tc .smem S1 .f32) (harg1 : arg1.IsWhole) (arg2 : Memref sig .tc .smem S1 .f32) (harg2 : arg2.IsWhole) (arg3 : Memref sig .tc .vmem S1920x6144 .fp8e4m3) (harg3 : arg3.IsWhole) (arg4 : Memref sig .tc .vmem S6144x256 .bf16) (harg4 : arg4.IsWhole) (arg5 : Memref sig .tc .vmem S1920x256 .f32) (harg5 : arg5.IsWhole) (arg6 : Memref sig .tc .vmem S256x6144 .fp8e5m2) (harg6 : arg6.IsWhole)
    (x0 : Vec F S1 .f32) (x1 : Vec F S1 .f32) (x2 : Vec F S1920x6144 .fp8e4m3) (x3 : Vec F S6144x256 .bf16) (y : S256x6144.Idx) :
    ∃ pc ∈ (kernelRun2_A c i arg1 harg1 arg2 harg2 arg3 harg3 arg4 harg4 arg5 harg5 arg6 harg6 x0 x1 x2 x3).2.1, y ∈ pc.1.set :=
  View.cover_of_tiledL (kernelRun2_A c i arg1 harg1 arg2 harg2 arg3 harg3 arg4 harg4 arg5 harg5 arg6 harg6 x0 x1 x2 x3).2.1 S256x6144.size (by sl_kernel_rfl) y

/-- What the run leaves in output 5's staging buffer: its pieces read back over junk. -/
def out2_A_5 (c : Dev nD) (i : grid2.Coords) (arg1 : Memref sig .tc .smem S1 .f32) (harg1 : arg1.IsWhole) (arg2 : Memref sig .tc .smem S1 .f32) (harg2 : arg2.IsWhole) (arg3 : Memref sig .tc .vmem S1920x6144 .fp8e4m3) (harg3 : arg3.IsWhole) (arg4 : Memref sig .tc .vmem S6144x256 .bf16) (harg4 : arg4.IsWhole) (arg5 : Memref sig .tc .vmem S1920x256 .f32) (harg5 : arg5.IsWhole) (arg6 : Memref sig .tc .vmem S256x6144 .fp8e5m2) (harg6 : arg6.IsWhole)
    (x0 : Vec F S1 .f32) (x1 : Vec F S1 .f32) (x2 : Vec F S1920x6144 .fp8e4m3) (x3 : Vec F S6144x256 .bf16) : Vec F S256x6144 .fp8e5m2 :=
  VO2_5.read (Elt F) (VO2_5.writes (Elt F) VO2_5.junk (kernelRun2_A c i arg1 harg1 arg2 harg2 arg3 harg3 arg4 harg4 arg5 harg5 arg6 harg6 x0 x1 x2 x3).2.1)

/-! ## What the outputs hold after each point -/

/-- What the outputs' staging buffers hold after the body at point `t` (as a tuple, in window order): the run's contents at
    the point's memrefs and input blocks. -/
def outsAt2 (c : Dev nD) (t : Fin cfg2.N) : Vec F S1920x256 .f32 × Vec F S256x6144 .fp8e5m2 :=
  (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t))

/-! ## The pipeline's proof data -/

/-- The proof data of pipeline 1 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t).1
    | ⟨5, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t).1 := by dsimp only [dat2]
theorem after2_5 (c : Dev nD) (t : Fin cfg2.N) : (dat2 V c).after 5 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2
  unfold out2_A_4 out2_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_A_4 c _ _ _ _ _ _ _ _ _ _ _ _ _ _ _ _ _)
  unfold owns; iexists _; isplitr
  swap; · iexact H5
  ipureintro; exact View.read_writes_of_cover _ _ _ _ _ (cover2_A_5 c _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.WholeRun.lean ====
/- The whole program run: the buffers' contents at every boundary between a stretch of host operations and a
   pallas_call, from the launch to the return, and the theorem that every execution ends with every unscoped buffer at
   the last boundary's contents and every semaphore counter at zero. -/
module

public import proofs.«01_k».proof.Proof.RegionAmax
public import proofs.«01_k».proof.Proof.RegionXq
public import proofs.«01_k».proof.Proof.RegionWgrad
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- rectangles of long axes: the elaborator recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the host stretch `hostOps0`. -/
def W1 (c : Dev nD) : Valuation τ sig (Elt F) := StableHlo.after hostOps0 (W0 m ρ c)
/-- A buffer the stretch does not write is as before it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The contents pallas_call 0 is entered with, read at the TensorCore's references. -/
abbrev E0 : (c : Dev nD) → (b : Ref sig .tc) → Buf (Elt F) ((c : Thread nD τ).loc b) := fun c b => W1 m ρ c b
/-- After pallas_call 0: its arrays at what its write-backs leave, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of the call's output arrays is as before it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E0 m ρ) c).arrAt_in w (h w rfl) _).trans (A_eq0 (E0 m ρ) c w))
  · exact W2_of_ne m ρ c r fun w e => hw ⟨w, e⟩
/-- The contents pallas_call 0 leaves, read at the TensorCore's references. -/
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After the host stretch `hostOps1`. -/
def W3 (c : Dev nD) : Valuation τ sig (Elt F) := StableHlo.after hostOps1 (W2 m ρ c)
/-- A buffer the stretch does not write is as before it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After the host stretch `hostOps1_1`. -/
def W4 (c : Dev nD) : Valuation τ sig (Elt F) := StableHlo.after hostOps1_1 (W3 m ρ c)
/-- A buffer the stretch does not write is as before it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h

/-- After the host stretch `hostOps1_2`. -/
def W5 (c : Dev nD) : Valuation τ sig (Elt F) := StableHlo.after hostOps1_2 (W4 m ρ c)
/-- A buffer the stretch does not write is as before it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h

/-- After the host stretch `hostOps1_3`. -/
def W6 (c : Dev nD) : Valuation τ sig (Elt F) := StableHlo.after hostOps1_3 (W5 m ρ c)
/-- A buffer the stretch does not write is as before it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h

/-- After the host stretch `hostOps1_4`. -/
def W7 (c : Dev nD) : Valuation τ sig (Elt F) := StableHlo.after hostOps1_4 (W6 m ρ c)
/-- A buffer the stretch does not write is as before it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h

/-- After the host stretch `hostOps1_5`. -/
def W8 (c : Dev nD) : Valuation τ sig (Elt F) := StableHlo.after hostOps1_5 (W7 m ρ c)
/-- A buffer the stretch does not write is as before it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h

/-- After the host stretch `hostOps1_6`. -/
def W9 (c : Dev nD) : Valuation τ sig (Elt F) := StableHlo.after hostOps1_6 (W8 m ρ c)
/-- A buffer the stretch does not write is as before it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h

/-- After the host stretch `hostOps1_7`. -/
def W10 (c : Dev nD) : Valuation τ sig (Elt F) := StableHlo.after hostOps1_7 (W9 m ρ c)
/-- A buffer the stretch does not write is as before it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h

/-- After the host stretch `hostOps1_8`. -/
def W11 (c : Dev nD) : Valuation τ sig (Elt F) := StableHlo.after hostOps1_8 (W10 m ρ c)
/-- A buffer the stretch does not write is as before it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h

/-- The contents pallas_call 1 is entered with, read at the TensorCore's references. -/
abbrev E1 : (c : Dev nD) → (b : Ref sig .tc) → Buf (Elt F) ((c : Thread nD τ).loc b) := fun c b => W11 m ρ c b
/-- After pallas_call 1: its arrays at what its write-backs leave, every other buffer as entered. -/
def W12 (c : Dev nD) : Valuation τ sig (Elt F) :=
  Pipeline.withArrays spec1 c (W11 m ρ c) fun w => (dat1 (E1 m ρ) c).arrAt w cfg1.N
theorem W12_arr (c : Dev nD) (w : Fin cfg1.W) :
    W12 m ρ c (Proc.devRef .tc (Pipeline.arrRef spec1 w)) = (dat1 (E1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- A buffer that is none of the call's output arrays is as before it. -/
theorem W12_of (c : Dev nD) (r : Ref sig .tc) (h : ∀ w : Fin cfg1.W, Pipeline.arrRef spec1 w = r → (cfg1.win w).isOut = false) :
    W12 m ρ c (Proc.devRef .tc r) = W11 m ρ c (Proc.devRef .tc r) := by
  by_cases hw : ∃ w : Fin cfg1.W, Pipeline.arrRef spec1 w = r
  · obtain ⟨w, rfl⟩ := hw
    exact (W12_arr m ρ c w).trans (((dat1 (E1 m ρ) c).arrAt_in w (h w rfl) _).trans (A_eq1 (E1 m ρ) c w))
  · exact W12_of_ne m ρ c r fun w e => hw ⟨w, e⟩
/-- The contents pallas_call 1 leaves, read at the TensorCore's references. -/
abbrev X1 : (c : Dev nD) → (b : Ref sig .tc) → Buf (Elt F) ((c : Thread nD τ).loc b) := fun c b => W12 m ρ c b
theorem hF1 (c : Dev nD) (w : Fin cfg1.W) : (dat1 (E1 m ρ) c).arrAt w cfg1.N = X1 m ρ c (Pipeline.arrRef spec1 w) :=
  (W12_arr m ρ c w).symm
theorem hrest1 (c : Dev nD) : ∀ b, b ∉ Finset.univ.image (Pipeline.arrRef spec1) → X1 m ρ c b = E1 m ρ c b :=
  fun b hb => W12_of_ne m ρ c b fun w e => hb (Finset.mem_image.mpr ⟨w, Finset.mem_univ _, e⟩)

/-- After the host stretch `hostOps2`. -/
def W13 (c : Dev nD) : Valuation τ sig (Elt F) := StableHlo.after hostOps2 (W12 m ρ c)
/-- A buffer the stretch does not write is as before it. -/
theorem W13_of (c : Dev nD) (r : Ref sig .tc) (h : r ∉ hostOps2_W) : W13 m ρ c (Proc.devRef .tc r) = W12 m ρ c (Proc.devRef .tc r) :=
  StableHlo.after_of_writes_sub hostOps2 _ hostOps2_writes h

/-- The contents pallas_call 2 is entered with, read at the TensorCore's references. -/
abbrev E2 : (c : Dev nD) → (b : Ref sig .tc) → Buf (Elt F) ((c : Thread nD τ).loc b) := fun c b => W13 m ρ c b
/-- After pallas_call 2: its arrays at what its write-backs leave, every other buffer as entered. -/
def W14 (c : Dev nD) : Valuation τ sig (Elt F) :=
  Pipeline.withArrays spec2 c (W13 m ρ c) fun w => (dat2 (E2 m ρ) c).arrAt w cfg2.N
theorem W14_arr (c : Dev nD) (w : Fin cfg2.W) :
    W14 m ρ c (Proc.devRef .tc (Pipeline.arrRef spec2 w)) = (dat2 (E2 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- A buffer that is none of the call's output arrays is as before it. -/
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (E2 m ρ) c).arrAt_in w (h w rfl) _).trans (A_eq2 (E2 m ρ) c w))
  · exact W14_of_ne m ρ c r fun w e => hw ⟨w, e⟩
/-- The contents pallas_call 2 leaves, read at the TensorCore's references. -/
abbrev X2 : (c : Dev nD) → (b : Ref sig .tc) → Buf (Elt F) ((c : Thread nD τ).loc b) := fun c b => W14 m ρ c b
theorem hF2 (c : Dev nD) (w : Fin cfg2.W) : (dat2 (E2 m ρ) c).arrAt w cfg2.N = X2 m ρ c (Pipeline.arrRef spec2 w) :=
  (W14_arr m ρ c w).symm
theorem hrest2 (c : Dev nD) : ∀ b, b ∉ Finset.univ.image (Pipeline.arrRef spec2) → X2 m ρ c b = E2 m ρ c b :=
  fun b hb => W14_of_ne m ρ c b fun w e => hb (Finset.mem_image.mpr ⟨w, Finset.mem_univ _, e⟩)

/-! ## The arguments end as launched -/

theorem W14_main_arg0 (c : Dev nD) : W14 m ρ c (Proc.devRef .tc main_arg0) = m ((c : Thread nD τ).loc main_arg0) :=
  (W14_of m ρ c main_arg0 (by decide +kernel)).trans <| (W13_of m ρ c main_arg0 (by decide)).trans <| (W12_of m ρ c main_arg0 (by decide +kernel)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide +kernel)).trans <| (W1_of m ρ c main_arg0 (by decide)).trans <| rfl
theorem W14_main_arg1 (c : Dev nD) : W14 m ρ c (Proc.devRef .tc main_arg1) = m ((c : Thread nD τ).loc main_arg1) :=
  (W14_of m ρ c main_arg1 (by decide +kernel)).trans <| (W13_of m ρ c main_arg1 (by decide)).trans <| (W12_of m ρ c main_arg1 (by decide +kernel)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide +kernel)).trans <| (W1_of m ρ c main_arg1 (by decide)).trans <| rfl

/-! ## The proof data of the three calls, and the thread state between segments -/

/-- No pipeline has a prefetched table. -/
abbrev adm : (p : Fin 3) → (pcfgs (F := F) p).Adm := fun p => (cfgs p).toPCfg_adm
/-- Every call's proof data at its entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W14 m ρ c) ∗ ∃ r, prngReg c r)

/-! ## The calls as segments -/

-- a library lemma over the pinned configurations unifies only when plain definitions in a metavariable's type unfold
set_option backward.isDefEq.respectTransparency.types false in
/-- pallas_call 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (E0 m ρ) c
    unfold Pipeline.ΦA at h
    iintro ⟨Hp, -, Hr⟩
    iapply h
    isplitl [Hr]; · iexact Hr
    iexact Hp
  hout c := by
    have h : (pdats m ρ 0 c).Φ (Fin.last _) ⊢ Pipeline.ΦA spec0 c := hout0 (E0 m ρ) c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma over the pinned configurations unifies only when plain definitions in a metavariable's type unfold
set_option backward.isDefEq.respectTransparency.types false in
/-- pallas_call 1 over the thread state: entered from every unscoped buffer at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) (A_eq1 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma over the pinned configurations unifies only when plain definitions in a metavariable's type unfold
set_option backward.isDefEq.respectTransparency.types false in
/-- pallas_call 2 over the thread state: entered from every unscoped buffer at `W13`, left at `W14`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) (A_eq2 (E2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's segments in order. -/
abbrev segs : List (Pipeline.Seg (pcfgs (F := F)) adm (pdats m ρ) () defs₀ 𝒱₀ L lv) :=
  [.host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .region (reg2 m ρ) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of @main terminates, nothing faulting, and
    every final state has every unscoped buffer at the last boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W14 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- The frame: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W14_main_arg0 m ρ c),
     (h.1 c _ (mem_uc main_arg1 (by decide))).trans (W14_main_arg1 m ρ c)⟩, h.2⟩) (run m ρ)

end Cert.KernelIdeal.Run

end
-- ==== Proof.SameProgram.lean ====
/- The kernel printed at the bit level and the kernel printed for the ideal instance are the same text: no operation was
   rewritten, so the run of one is, by unfolding, the run of the other, at every float instance. -/
module

public import proofs.«01_k».proof.Proof.WholeRun
public import proofs.«01_k».proof.Defs
public import proofs.«01_k».proof.Proof.Gen.Kernel

@[expose] public section

noncomputable section

namespace Cert.Proof

open Idealize.ShloMosaic Idealize.ShloMosaic.Tactic Idealize.SL.Sem

variable {F : FTy → Type} [FloatOps F]

local instance : Cert.Kernel.Facts := Cert.Kernel.Gen.facts
local instance : Cert.KernelIdeal.Facts := Cert.KernelIdeal.Gen.facts

set_option maxHeartbeats 4000000 in
/-- The frame statement of the kernel's text and that of its ideal print are one statement. -/
theorem same_frame (m : (ℓ : Loc Cert.KernelIdeal.nD Cert.KernelIdeal.τ Cert.KernelIdeal.sig) → Buf (Elt F) ℓ)
    (g : Dev Cert.KernelIdeal.nD → PrngReg) :
    (θ_run (Cert.Kernel.defs (F := F)) (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0))
    = (θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) := by chain_rfl

/-- The kernel as compiled for the device terminates with its arguments unchanged and every counter at zero. -/
theorem quiescent_kernel : Cert.quiescent_Kernel := fun m g _ =>
  (same_frame (F := Bits) m g).mpr (Cert.KernelIdeal.Run.frame m g)

/-- The kernel's ideal print terminates with its arguments unchanged and every counter at zero. -/
theorem quiescent_kernelIdeal : Cert.quiescent_KernelIdeal := fun m g _ => Cert.KernelIdeal.Run.frame m g

end Cert.Proof

end
-- ==== Proof.Scale.lean ====
/- The scale of one tensor, as mathematics over the extended reals: the greatest magnitude, frexp's exponent found among
   the 252 powers of two 2⁻¹²⁶ … 2¹²⁵, and the power of two it names. Then the two ways the programs write it — the
   kernel in 32-bit integer words whose shifted bits are read as a float, the reference in floats and a power — each
   equal to it. -/
module

public import Idealize.ShloMosaic.PureOps.Ideal.Laws
public import Idealize.ShloMosaic.PureOps.Reduce
public import Idealize.ShloMosaic.Lib.ValueIdx
public import Idealize.ShloMosaic.Lib.IdealHost
public import Mathlib.Order.Interval.Finset.Fin

@[expose] public section

noncomputable section

namespace Cert.Spec

open Idealize.ShloMosaic Idealize.ShloMosaic.ValueIdx

/-- `2ᵉ` as an extended real. -/
def pow2 (e : ℤ) : EReal := (((2 : ℝ) ^ e : ℝ) : EReal)

/-- A larger exponent, a larger power. -/
theorem pow2_mono {a b : ℤ} (h : a ≤ b) : pow2 a ≤ pow2 b :=
  EReal.coe_le_coe_iff.mpr (zpow_le_zpow_right₀ (by norm_num) h)

/-- How many of the powers 2⁻¹²⁶ … 2¹²⁵ are at most `y`. -/
def count (y : EReal) : ℕ := (Finset.univ.filter fun k : Fin 252 => pow2 ((k : ℤ) - 126) ≤ y).card

/-- frexp's exponent of `y`, held in the range −126 … 126: the least exponent whose power exceeds `y`. -/
def expo (y : EReal) : ℤ := (count y : ℤ) - 126

/-- The exponent of a tensor's scale: `a` its greatest magnitude, `c` the reciprocal of the format's maximum. -/
def scaleExp (a c : EReal) : ℤ := if a = 0 then 0 else expo (a * c)

theorem count_le (y : EReal) : count y ≤ 252 := by
  have h := Finset.card_le_univ (Finset.univ.filter fun k : Fin 252 => pow2 ((k : ℤ) - 126) ≤ y)
  rwa [Fintype.card_fin] at h

/-- The powers at most `y` are the first `count y` of them. -/
theorem pow2_le_iff (y : EReal) (k : Fin 252) : pow2 ((k : ℤ) - 126) ≤ y ↔ k.val < count y := by
  unfold count
  constructor
  · intro h
    have hs : Finset.Iic k ⊆ Finset.univ.filter fun k : Fin 252 => pow2 ((k : ℤ) - 126) ≤ y := fun j hj => by
      rw [Finset.mem_Iic] at hj
      have hj' : j.val ≤ k.val := hj
      exact Finset.mem_filter.mpr ⟨Finset.mem_univ _, (pow2_mono (by omega)).trans h⟩
    have := Finset.card_le_card hs
    rw [Fin.card_Iic] at this; omega
  · intro h
    by_contra hn
    have hs : (Finset.univ.filter fun k : Fin 252 => pow2 ((k : ℤ) - 126) ≤ y) ⊆ Finset.Iio k := fun j hj => by
      rw [Finset.mem_Iio]
      by_contra hjk
      have hjk' : k.val ≤ j.val := not_lt.mp hjk
      exact hn ((pow2_mono (by omega)).trans (Finset.mem_filter.mp hj).2)
    have := Finset.card_le_card hs
    rw [Fin.card_Iio] at this; omega

theorem expo_bounds (y : EReal) : -126 ≤ expo y ∧ expo y ≤ 126 := by
  have := count_le y; unfold expo; omega

theorem scaleExp_bounds (a c : EReal) : -126 ≤ scaleExp a c ∧ scaleExp a c ≤ 126 := by
  unfold scaleExp; split
  · omega
  · exact expo_bounds _

/-! ## The kernel's words -/

/-- An exponent in range, plus the bias and shifted to the exponent's place, is the float word of its power. -/
theorem ofBits_shift (e : ℤ) (h0 : -126 ≤ e) (h1 : e ≤ 126) :
    Ideal.ofBits .f32 (IntOp.shli .host (IntOp.addi (BitVec.ofInt 32 e) 127#32) 23#32) = pow2 e := by
  obtain ⟨n, hn⟩ : ∃ n : ℕ, e + 127 = n := ⟨(e + 127).toNat, by omega⟩
  have hw : IntOp.addi (BitVec.ofInt 32 e) 127#32 = BitVec.ofNat 32 n := by
    unfold IntOp.addi
    show BitVec.ofInt 32 e + BitVec.ofInt 32 127 = _
    rw [← BitVec.ofInt_add, hn, BitVec.ofInt_natCast]
  have hs : IntOp.shli .host (BitVec.ofNat 32 n) 23#32 = BitVec.ofNat 32 (n * 2 ^ 23) := by
    unfold IntOp.shli
    rw [if_pos (by decide)]
    apply BitVec.eq_of_toNat_eq
    simp [BitVec.toNat_shiftLeft, Nat.shiftLeft_eq]
  rw [hw, hs]
  have hb : (BitVec.ofNat 32 (n * 2 ^ 23)).toNat = n * 2 ^ 23 := by
    rw [BitVec.toNat_ofNat]; exact Nat.mod_eq_of_lt (by omega)
  have hex : ((BitVec.ofNat 32 (n * 2 ^ 23)).extractLsb' 23 8).toNat = n := by
    rw [BitVec.extractLsb'_toNat, hb, Nat.shiftRight_eq_div_pow]; omega
  have hfr : ((BitVec.ofNat 32 (n * 2 ^ 23)).extractLsb' 0 23).toNat = 0 := by
    rw [BitVec.extractLsb'_toNat, hb, Nat.shiftRight_eq_div_pow]; omega
  have hsg : ((BitVec.ofNat 32 (n * 2 ^ 23)).extractLsb' (8 + 23) 1 == 1#1) = false := by
    rw [beq_eq_false_iff_ne]
    intro h
    have := congrArg BitVec.toNat h
    rw [BitVec.extractLsb'_toNat, hb, Nat.shiftRight_eq_div_pow] at this
    simp at this; omega
  show Ideal.ieee 8 23 (BitVec.ofNat 32 (n * 2 ^ 23)) = _
  unfold Ideal.ieee pow2
  simp only [hex, hfr, hsg]
  rw [if_neg (by omega), if_neg (by omega)]
  congr 1
  have he : e = ((n : ℤ) - (2 ^ (8 - 1) - 1) - (23 : ℕ)) + (23 : ℕ) := by push_cast; omega
  rw [he, zpow_add₀ (by norm_num : (2 : ℝ) ≠ 0)]
  push_cast; ring

/-- A fold of signed maxima: an upper bound that is attained is the fold. -/
theorem toInt_fold_maxsi {ι : Type} (s : Finset ι) (f : ι → BitVec 32) (init : BitVec 32) (e : ℤ) (hi : init.toInt ≤ e)
    (hle : ∀ i ∈ s, (f i).toInt ≤ e) (hex : ∃ i ∈ s, (f i).toInt = e) : s.fold IntOp.maxsi init f = BitVec.ofInt 32 e := by
  have hm : (s.fold IntOp.maxsi init f).toInt = s.fold max init.toInt (fun i => (f i).toInt) := by
    refine (Finset.fold_hom (m := BitVec.toInt) (op := IntOp.maxsi) (op' := max) fun x y => ?_).symm
    unfold IntOp.maxsi
    simp only [BitVec.slt, decide_eq_true_eq]
    split <;> omega
  have he : (s.fold IntOp.maxsi init f).toInt = e := by
    rw [hm]
    refine le_antisymm ((Finset.fold_max_le _).mpr ⟨hi, hle⟩) ((Finset.le_fold_max _).mpr (.inr ?_))
    obtain ⟨i, his, hi⟩ := hex
    exact ⟨i, his, hi.ge⟩
  rw [← he, BitVec.ofInt_toInt]

/-- The kernel's candidate word for power `k`: one more than its exponent if the power is at most `y`, else −126. -/
def candidate (y : EReal) (k : Fin 252) : BitVec 32 :=
  Scalar.select (Ideal.cmp .ole (pow2 ((k : ℤ) - 126)) y)
    (IntOp.addi (IntOp.subi (BitVec.ofNat 32 k) 126#32) 1#32) 4294967170#32

theorem toInt_candidate (y : EReal) (k : Fin 252) :
    (candidate y k).toInt = if k.val < count y then (k : ℤ) - 125 else -126 := by
  have hk : (IntOp.addi (IntOp.subi (BitVec.ofNat 32 k) 126#32) 1#32).toInt = (k : ℤ) - 125 := by
    revert k; decide
  unfold candidate Scalar.select Ideal.cmp
  by_cases h : k.val < count y
  · simp [h, (pow2_le_iff y k).mpr h, hk]
  · have := (pow2_le_iff y k).not.mpr h
    simp [h, this]

/-- The signed maximum of the candidates is the exponent's word. -/
theorem fold_candidate {ι : Type} [Fintype ι] (g : ι → Fin 252) (hg : Function.Surjective g) (y : EReal) :
    (Finset.univ : Finset ι).fold IntOp.maxsi 2147483648#32 (fun i => candidate y (g i)) = BitVec.ofInt 32 (expo y) := by
  have hc := count_le y
  refine toInt_fold_maxsi _ _ _ _ (by have := (expo_bounds y).1; refine le_trans ?_ this; decide) (fun i _ => ?_) ?_
  · rw [toInt_candidate]; unfold expo; split <;> omega
  · obtain ⟨i, hi⟩ := hg ⟨count y - 1, by omega⟩
    refine ⟨i, Finset.mem_univ _, ?_⟩
    rw [toInt_candidate, hi]; unfold expo; dsimp only; split <;> omega

/-! ## The reference's floats -/

/-- Two to an integer power, by the host's power function. -/
theorem pow_two (e : ℤ) : Ideal.pow ((2 : ℝ) : EReal) (((e : ℤ) : ℝ) : EReal) = pow2 e := by
  rw [Ideal.pow_coe_coe]; unfold pow2
  rw [Real.rpow_eq_pow, Real.rpow_intCast]

/-- The reference's candidate for power `k`: its exponent if the power exceeds `y`, else 126. -/
def candidateR (y : EReal) (k : Fin 252) : EReal :=
  Scalar.select (Ideal.cmp .olt y (pow2 ((k : ℤ) - 126))) ((((k : ℤ) - 126 : ℤ) : ℝ) : EReal) ((126 : ℝ) : EReal)

theorem candidateR_eq (y : EReal) (k : Fin 252) :
    candidateR y k = (((if k.val < count y then 126 else (k : ℤ) - 126 : ℤ) : ℝ) : EReal) := by
  unfold candidateR Scalar.select Ideal.cmp
  by_cases h : k.val < count y
  · simp [h, not_lt.mpr ((pow2_le_iff y k).mpr h)]
  · have := not_le.mp ((pow2_le_iff y k).not.mpr h)
    simp [h, this]

/-- The minimum of the reference's candidates is the exponent. -/
theorem fold_candidateR {ι : Type} [Fintype ι] (g : ι → Fin 252) (hg : Function.Surjective g) (y : EReal) :
    (Finset.univ : Finset ι).fold min (⊤ : EReal) (fun i => candidateR y (g i)) = (((expo y : ℤ) : ℝ) : EReal) := by
  have hc := count_le y
  refine le_antisymm ((Finset.fold_min_le _).mpr (.inr ?_)) ((Finset.le_fold_min _).mpr ⟨le_top, fun i _ => ?_⟩)
  · by_cases h : count y < 252
    · obtain ⟨i, hi⟩ := hg ⟨count y, h⟩
      refine ⟨i, Finset.mem_univ _, le_of_eq ?_⟩
      rw [candidateR_eq, hi, if_neg (by dsimp only; omega)]; rfl
    · obtain ⟨i, hi⟩ := hg ⟨0, by omega⟩
      refine ⟨i, Finset.mem_univ _, le_of_eq ?_⟩
      rw [candidateR_eq, hi, if_pos (by dsimp only; omega)]
      unfold expo; rw [show count y = 252 by omega]; norm_num
  · rw [candidateR_eq, EReal.coe_le_coe_iff, Int.cast_le]; unfold expo; split <;> omega

/-! ## The greatest magnitude -/

/-- The greatest magnitude of a family of extended reals. -/
def amax {ι : Type} [Fintype ι] (v : ι → EReal) : EReal := Finset.univ.sup fun i => max (v i) (-v i)

theorem amax_le_iff {ι : Type} [Fintype ι] (v : ι → EReal) (b : EReal) :
    amax v ≤ b ↔ ∀ i, max (v i) (-v i) ≤ b := by
  unfold amax; rw [Finset.sup_le_iff]; simp

/-- A magnitude is nonnegative. -/
theorem abs_nonneg (x : EReal) : 0 ≤ max x (-x) := by
  rcases le_total 0 x with h | h
  · exact le_max_of_le_left h
  · exact le_max_of_le_right (EReal.neg_nonneg.mpr h)

end Cert.Spec

end
-- ==== Proof.KernelScales.lean ====
/- The scale lines of the kernel on the host, at the ideal instance: from the greatest magnitude that the first
   pallas_call left, each tensor's scale and its inverse as powers of two, and the product of the two scales. The lines
   are read at an index off their last writers, then put on Scale.lean's exponent. -/
module

public import proofs.«01_k».proof.Proof.WholeRun
public import proofs.«01_k».proof.Proof.Scale
public import Idealize.ShloMosaic.Lib.StableHlo.ReadAt
public import Idealize.ShloMosaic.Lib.Pointwise

@[expose] public section

set_option maxRecDepth 16384

noncomputable section

namespace Cert.KernelIdeal.Run

open Cert.KernelIdeal Cert.KernelIdeal.Gen Cert.Spec
open Idealize.ShloMosaic Idealize.ShloMosaic.TcCoe Idealize.ShloMosaic.Tactic Idealize.ShloMosaic.StableHlo

/-- The reciprocal of float8 e4m3's greatest magnitude, as the host's constant spells it. -/
abbrev rX : EReal := Ideal.ofBits .f32 0x3B124925#32
/-- The reciprocal of float8 e5m2's greatest magnitude, as the host's constant spells it. -/
abbrev rY : EReal := Ideal.ofBits .f32 0x37924925#32

/-- The word of power `k` on the host: `k − 126` plus the bias, shifted, read as a float, is 2^(k − 126). -/
theorem power_word (k : Fin 252) :
    Ideal.ofBits .f32 (IntOp.shli .host (IntOp.addi (IntOp.subi (BitVec.ofNat 32 k) 126#32) 127#32) 23#32) = pow2 ((k : ℤ) - 126) := by
  have hk : IntOp.subi (BitVec.ofNat 32 k) 126#32 = BitVec.ofInt 32 ((k : ℤ) - 126) := by
    revert k; decide
  rw [hk]; exact ofBits_shift _ (by omega) (by omega)

/-- The exponent's word, replaced by zero where the magnitude is zero, is the scale's exponent. -/
theorem select_exponent (a c : EReal) :
    Scalar.select (Ideal.cmp .oeq a 0) 0#32 (BitVec.ofInt 32 (expo (a * c))) = BitVec.ofInt 32 (scaleExp a c) := by
  unfold Scalar.select Ideal.cmp scaleExp
  by_cases h : a = 0 <;> simp [h]

/-- The negated exponent's word. -/
theorem neg_word (e : ℤ) : -BitVec.ofInt 32 e = BitVec.ofInt 32 (-e) := (BitVec.ofInt_neg).symm

section Lines

variable (V0 : Valuation τ sig (Elt Ideal))

/-! ## The first tensor's lines -/

theorem cmpX (j : S1x252.Idx) : after hostOps1 V0 (Proc.devRef .tc main_v17) j
    = Ideal.cmp .ole (pow2 (((j 1).val : ℤ) - 126)) (HMul.hMul (α := EReal) (V0 (Proc.devRef .tc main_v2_0) (ix2 0 0)) rX) := by
  rw [← power_word (j 1)]
  after_reads_at
theorem nextX (j : S252.Idx) : after hostOps1 V0 (Proc.devRef .tc main_v19) j
    = IntOp.addi (IntOp.subi (BitVec.ofNat 32 (j 0).val) 126#32) 1#32 := by
  after_reads_at
theorem floorX (j : S_.Idx) : after hostOps1 V0 (Proc.devRef .tc main_c_3) j = 4294967170#32 := by
  after_reads_at
theorem whereX (j : S1x252.Idx) : after hostOps1_1 V0 (Proc.devRef .tc main_v20) j
    = Scalar.select (V0 (Proc.devRef .tc main_v17) j) (V0 (Proc.devRef .tc main_v19) (ix1 (j 1))) (V0 (Proc.devRef .tc main_c_3) ix0) := by
  after_reads_at
  rfl
theorem maxX (j : S1.Idx) : after hostOps1_2 V0 (Proc.devRef .tc main_v21) j
    = Finset.fold IntOp.maxsi 2147483648#32 (fun x => V0 (Proc.devRef .tc main_v20) (ix2 0 x)) Finset.univ := by
  after_reads_at
theorem zeroX (j : S1.Idx) : after hostOps1_2 V0 (Proc.devRef .tc main_v23) j
    = Ideal.cmp .oeq (V0 (Proc.devRef .tc main_v3) j) 0 := by
  rw [← Ideal.ofBits_zero_f32]
  after_reads_at
theorem zeroWordX (j : S_.Idx) : after hostOps1_2 V0 (Proc.devRef .tc main_c_6) j = 0#32 := by
  after_reads_at
theorem amaxX (j : S1.Idx) : after hostOps1 V0 (Proc.devRef .tc main_v3) j = V0 (Proc.devRef .tc main_v2_0) (ix2 0 0) := by
  after_reads_at
theorem expX (j : S1.Idx) : after hostOps1_3 V0 (Proc.devRef .tc main_v24) j
    = Scalar.select (V0 (Proc.devRef .tc main_v23) j) (V0 (Proc.devRef .tc main_c_6) ix0) (V0 (Proc.devRef .tc main_v21) j) := by
  after_reads_at
  rfl
theorem scaleX (j : S1.Idx) : after hostOps1_4 V0 (Proc.devRef .tc main_v29) j
    = Ideal.ofBits .f32 (IntOp.shli .host (IntOp.addi (V0 (Proc.devRef .tc main_v24) j) 127#32) 23#32) := by
  after_reads_at
theorem invX (j : S1.Idx) : after hostOps1_4 V0 (Proc.devRef .tc main_v35) j
    = Ideal.ofBits .f32 (IntOp.shli .host (IntOp.addi (Neg.neg (α := BitVec 32) (V0 (Proc.devRef .tc main_v24) j)) 127#32) 23#32) := by
  after_reads_at

/-! ## The second tensor's lines -/

theorem cmpY (j : S1x252.Idx) : after hostOps1_4 V0 (Proc.devRef .tc main_v50) j
    = Ideal.cmp .ole (pow2 (((j 1).val : ℤ) - 126)) (HMul.hMul (α := EReal) (V0 (Proc.devRef .tc main_v2_1) (ix2 0 0)) rY) := by
  rw [← power_word (j 1)]
  after_reads_at
theorem nextY (j : S252.Idx) : after hostOps1_4 V0 (Proc.devRef .tc main_v52) j
    = IntOp.addi (IntOp.subi (BitVec.ofNat 32 (j 0).val) 126#32) 1#32 := by
  after_reads_at
theorem floorY (j : S_.Idx) : after hostOps1_4 V0 (Proc.devRef .tc main_c_16) j = 4294967170#32 := by
  after_reads_at
theorem whereY (j : S1x252.Idx) : after hostOps1_5 V0 (Proc.devRef .tc main_v53) j
    = Scalar.select (V0 (Proc.devRef .tc main_v50) j) (V0 (Proc.devRef .tc main_v52) (ix1 (j 1))) (V0 (Proc.devRef .tc main_c_16) ix0) := by
  after_reads_at
  rfl
theorem maxY (j : S1.Idx) : after hostOps1_6 V0 (Proc.devRef .tc main_v54) j
    = Finset.fold IntOp.maxsi 2147483648#32 (fun x => V0 (Proc.devRef .tc main_v53) (ix2 0 x)) Finset.univ := by
  after_reads_at
theorem zeroY (j : S1.Idx) : after hostOps1_6 V0 (Proc.devRef .tc main_v56) j
    = Ideal.cmp .oeq (V0 (Proc.devRef .tc main_v36) j) 0 := by
  rw [← Ideal.ofBits_zero_f32]
  after_reads_at
theorem zeroWordY (j : S_.Idx) : after hostOps1_6 V0 (Proc.devRef .tc main_c_19) j = 0#32 := by
  after_reads_at
theorem amaxY (j : S1.Idx) : after hostOps1_4 V0 (Proc.devRef .tc main_v36) j = V0 (Proc.devRef .tc main_v2_1) (ix2 0 0) := by
  after_reads_at
theorem expY (j : S1.Idx) : after hostOps1_7 V0 (Proc.devRef .tc main_v57) j
    = Scalar.select (V0 (Proc.devRef .tc main_v56) j) (V0 (Proc.devRef .tc main_c_19) ix0) (V0 (Proc.devRef .tc main_v54) j) := by
  after_reads_at
  rfl
theorem scaleY (j : S1.Idx) : after hostOps1_8 V0 (Proc.devRef .tc main_v62) j
    = Ideal.ofBits .f32 (IntOp.shli .host (IntOp.addi (V0 (Proc.devRef .tc main_v57) j) 127#32) 23#32) := by
  after_reads_at
theorem invY (j : S1.Idx) : after hostOps1_8 V0 (Proc.devRef .tc main_v68) j
    = Ideal.ofBits .f32 (IntOp.shli .host (IntOp.addi (Neg.neg (α := BitVec 32) (V0 (Proc.devRef .tc main_v57) j)) 127#32) 23#32) := by
  after_reads_at
theorem prodXY (j : S1.Idx) : after hostOps2 V0 (Proc.devRef .tc main_v70) j
    = HMul.hMul (α := EReal) (β := EReal) (V0 (Proc.devRef .tc main_v29) j) (V0 (Proc.devRef .tc main_v62) j) := by
  after_reads_at

end Lines

/-! ## Through the program -/

variable (m : (ℓ : Loc nD τ sig) → Buf (Elt Ideal) ℓ) (ρ : Dev nD → PrngReg) (c : Dev nD)

/-- What the first pallas_call left as the first tensor's greatest magnitude, -/
abbrev aX : EReal := W2 m ρ c (Proc.devRef .tc main_v2_0) (ix2 0 0)
/-- and the second's. -/
abbrev aY : EReal := W2 m ρ c (Proc.devRef .tc main_v2_1) (ix2 0 0)

/-- The first tensor's exponent, in its word. -/
theorem W6_v24 (j : S1.Idx) : W6 m ρ c (Proc.devRef .tc main_v24) j = BitVec.ofInt 32 (scaleExp (aX m ρ c) rX) := by
  have h20 : ∀ k : Fin 252, W4 m ρ c (Proc.devRef .tc main_v20) (ix2 0 k) = candidate (aX m ρ c * rX) k := fun k => by
    unfold W4; rw [whereX]; unfold W3; rw [cmpX, nextX, floorX]; rfl
  unfold W6; rw [expX]; unfold W5; rw [maxX, zeroX, zeroWordX, W4_of m ρ c main_v3 (by decide)]
  simp only [h20]
  unfold W3; rw [amaxX, fold_candidate (fun x => x) Function.surjective_id]
  exact select_exponent _ _

/-- The second tensor's exponent, in its word. -/
theorem W10_v57 (j : S1.Idx) : W10 m ρ c (Proc.devRef .tc main_v57) j = BitVec.ofInt 32 (scaleExp (aY m ρ c) rY) := by
  have hc : W6 m ρ c (Proc.devRef .tc main_v2_1) = W2 m ρ c (Proc.devRef .tc main_v2_1) := by
    rw [W6_of m ρ c main_v2_1 (by decide), W5_of m ρ c main_v2_1 (by decide), W4_of m ρ c main_v2_1 (by decide),
      W3_of m ρ c main_v2_1 (by decide)]
  have h53 : ∀ k : Fin 252, W8 m ρ c (Proc.devRef .tc main_v53) (ix2 0 k) = candidate (aY m ρ c * rY) k := fun k => by
    unfold W8; rw [whereY]; unfold W7; rw [cmpY, nextY, floorY, hc]; rfl
  unfold W10; rw [expY]; unfold W9; rw [maxY, zeroY, zeroWordY, W8_of m ρ c main_v36 (by decide)]
  simp only [h53]
  unfold W7; rw [amaxY, hc, fold_candidate (fun x => x) Function.surjective_id]
  exact select_exponent _ _

/-- The first tensor's scale. -/
theorem W7_v29 (j : S1.Idx) : W7 m ρ c (Proc.devRef .tc main_v29) j = pow2 (scaleExp (aX m ρ c) rX) := by
  unfold W7; rw [scaleX, W6_v24]
  exact ofBits_shift _ (scaleExp_bounds _ _).1 (scaleExp_bounds _ _).2

/-- The first tensor's inverse scale. -/
theorem W7_v35 (j : S1.Idx) : W7 m ρ c (Proc.devRef .tc main_v35) j = pow2 (-scaleExp (aX m ρ c) rX) := by
  have h := scaleExp_bounds (aX m ρ c) rX
  unfold W7; rw [invX, W6_v24, neg_word]
  exact ofBits_shift _ (by omega) (by omega)

/-- The second tensor's scale. -/
theorem W11_v62 (j : S1.Idx) : W11 m ρ c (Proc.devRef .tc main_v62) j = pow2 (scaleExp (aY m ρ c) rY) := by
  unfold W11; rw [scaleY, W10_v57]
  exact ofBits_shift _ (scaleExp_bounds _ _).1 (scaleExp_bounds _ _).2

/-- The second tensor's inverse scale. -/
theorem W11_v68 (j : S1.Idx) : W11 m ρ c (Proc.devRef .tc main_v68) j = pow2 (-scaleExp (aY m ρ c) rY) := by
  have h := scaleExp_bounds (aY m ρ c) rY
  unfold W11; rw [invY, W10_v57, neg_word]
  exact ofBits_shift _ (by omega) (by omega)

/-- The first tensor's scale is kept to the second pallas_call's entry, -/
theorem W11_v29 : W11 m ρ c (Proc.devRef .tc main_v29) = W7 m ρ c (Proc.devRef .tc main_v29) := by
  rw [W11_of m ρ c main_v29 (by decide), W10_of m ρ c main_v29 (by decide), W9_of m ρ c main_v29 (by decide),
    W8_of m ρ c main_v29 (by decide)]
/-- and its inverse. -/
theorem W11_v35 : W11 m ρ c (Proc.devRef .tc main_v35) = W7 m ρ c (Proc.devRef .tc main_v35) := by
  rw [W11_of m ρ c main_v35 (by decide), W10_of m ρ c main_v35 (by decide), W9_of m ρ c main_v35 (by decide),
    W8_of m ρ c main_v35 (by decide)]

/-- The product of the two scales, as the third pallas_call is handed it. -/
theorem W13_v70 (j : S1.Idx) : W13 m ρ c (Proc.devRef .tc main_v70) j
    = pow2 (scaleExp (aX m ρ c) rX) * pow2 (scaleExp (aY m ρ c) rY) := by
  unfold W13; rw [prodXY, W12_of m ρ c main_v29 (by decide +kernel), W12_of m ρ c main_v62 (by decide +kernel), W11_v29, W7_v29, W11_v62]

end Cert.KernelIdeal.Run

end
-- ==== Proof.KernelBlocks.lean ====
/- What one grid point of each pallas_call computes: the contents every case of every body leaves in its outputs and
   accumulators, as the body's own payloads of the blocks it was handed, and those payloads read at an index over the
   extended reals. -/
module

public import proofs.«01_k».proof.Proof.WholeRun
public import Idealize.ShloMosaic.Lib.Pointwise
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

theorem zero_offsets : (![0, 0] : Fin 2 → Nat) = fun _ => 0 := funext fun a => by fin_cases a <;> rfl

section Cases

variable {F : FTy → Type} [FloatOps F]

/-! ## The first pallas_call: the running maxima -/

section Amax

variable (c : Dev nD) (i : grid0.Coords) (a1 : Memref sig .tc .vmem S256x1920 .bf16) (h1 : a1.IsWhole)
  (a2 : Memref sig .tc .vmem S256x5376 .bf16) (h2 : a2.IsWhole) (a3 : Memref sig .tc .vmem S1x1 .f32) (h3 : a3.IsWhole)
  (a4 : Memref sig .tc .vmem S1x1 .f32) (h4 : a4.IsWhole) (a5 : Memref sig .tc .vmem S16x1920 .bf16) (h5 : a5.IsWhole)
  (a6 : Memref sig .tc .vmem S16x5376 .bf16) (h6 : a6.IsWhole)
  (x0 : Vec F S256x1920 .bf16) (x1 : Vec F S256x5376 .bf16) (xs0 : Vec F S16x1920 .bf16) (xs1 : Vec F S16x5376 .bf16)

/-- First point: accumulator 0 is zeroed, then raised by the first tensor's block. -/
theorem sout_A0 (hc0 : cond0_0 i) (hc1 : ¬cond0_1 i) :
    sout0_A_0 c i a1 h1 a2 h2 a3 h3 a4 h4 a5 h5 a6 h6 hc0 hc1 x0 x1 = k0_pay3 k0_pay1 x0 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S16x1920) zero_offsets, View.readCov_unit_zero (S := S16x1920) _ zero_offsets]
  simp only [View.readAt_eq_ld, h1.read_unread, View.ld_unit_zero (S := S256x1920) zero_offsets]

/-- A middle point: accumulator 0 is raised by the first tensor's block. -/
theorem sout_B0 (hc0 : ¬cond0_0 i) (hc1 : ¬cond0_1 i) :
    sout0_B_0 c i a1 h1 a2 h2 a3 h3 a4 h4 a5 h5 a6 h6 hc0 hc1 x0 x1 xs0 xs1 = k0_pay3 xs0 x0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero (S := S16x1920) zero_offsets]
  simp only [View.readAt_eq_ld, h1.read_unread, h5.read_unread, View.ld_unit_zero (S := S256x1920) zero_offsets, View.ld_unit_zero (S := S16x1920) zero_offsets]

/-- The last point: accumulator 0 is raised by the first tensor's block. -/
theorem sout_C0 (hc0 : ¬cond0_0 i) (hc1 : cond0_1 i) :
    sout0_C_0 c i a1 h1 a2 h2 a3 h3 a4 h4 a5 h5 a6 h6 hc0 hc1 x0 x1 xs0 xs1 = k0_pay3 xs0 x0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero (S := S16x1920) zero_offsets]
  simp only [View.readAt_eq_ld, h1.read_unread, h5.read_unread, View.ld_unit_zero (S := S256x1920) zero_offsets, View.ld_unit_zero (S := S16x1920) zero_offsets]

/-- The last point also stores the greatest entry of accumulator 0. -/
theorem out_C0 (hc0 : ¬cond0_0 i) (hc1 : cond0_1 i) :
    out0_C_2 c i a1 h1 a2 h2 a3 h3 a4 h4 a5 h5 a6 h6 hc0 hc1 x0 x1 xs0 xs1 = k0_pay5 (k0_pay3 xs0 x0) := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero (S := S1x1) zero_offsets, View.readCov_unit_zero (S := S16x1920) _ zero_offsets]
  simp only [View.readAt_eq_ld, h1.read_unread, h5.read_unread, View.ld_unit_zero (S := S256x1920) zero_offsets, View.ld_unit_zero (S := S16x1920) zero_offsets]

/-- First point: accumulator 1 is zeroed, then raised by the second tensor's block. -/
theorem sout_A1 (hc0 : cond0_0 i) (hc1 : ¬cond0_1 i) :
    sout0_A_1 c i a1 h1 a2 h2 a3 h3 a4 h4 a5 h5 a6 h6 hc0 hc1 x0 x1 = k0_pay4 k0_pay2 x1 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S16x5376) zero_offsets, View.readCov_unit_zero (S := S16x5376) _ zero_offsets]
  simp only [View.readAt_eq_ld, h2.read_unread, View.ld_unit_zero (S := S256x5376) zero_offsets]

/-- A middle point: accumulator 1 is raised by the second tensor's block. -/
theorem sout_B1 (hc0 : ¬cond0_0 i) (hc1 : ¬cond0_1 i) :
    sout0_B_1 c i a1 h1 a2 h2 a3 h3 a4 h4 a5 h5 a6 h6 hc0 hc1 x0 x1 xs0 xs1 = k0_pay4 xs1 x1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero (S := S16x5376) zero_offsets]
  simp only [View.readAt_eq_ld, h2.read_unread, h6.read_unread, View.ld_unit_zero (S := S256x5376) zero_offsets, View.ld_unit_zero (S := S16x5376) zero_offsets]

/-- The last point: accumulator 1 is raised by the second tensor's block. -/
theorem sout_C1 (hc0 : ¬cond0_0 i) (hc1 : cond0_1 i) :
    sout0_C_1 c i a1 h1 a2 h2 a3 h3 a4 h4 a5 h5 a6 h6 hc0 hc1 x0 x1 xs0 xs1 = k0_pay4 xs1 x1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero (S := S16x5376) zero_offsets]
  simp only [View.readAt_eq_ld, h2.read_unread, h6.read_unread, View.ld_unit_zero (S := S256x5376) zero_offsets, View.ld_unit_zero (S := S16x5376) zero_offsets]

/-- The last point also stores the greatest entry of accumulator 1. -/
theorem out_C1 (hc0 : ¬cond0_0 i) (hc1 : cond0_1 i) :
    out0_C_3 c i a1 h1 a2 h2 a3 h3 a4 h4 a5 h5 a6 h6 hc0 hc1 x0 x1 xs0 xs1 = k0_pay6 (k0_pay4 xs1 x1) := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero (S := S1x1) zero_offsets, View.readCov_unit_zero (S := S16x5376) _ zero_offsets]
  simp only [View.readAt_eq_ld, h2.read_unread, h6.read_unread, View.ld_unit_zero (S := S256x5376) zero_offsets, View.ld_unit_zero (S := S16x5376) zero_offsets]

end Amax

/-! ## The second pallas_call: the first tensor's codes, transposed -/

/-- The one scalar of a vector of one. -/
theorem ld_one (x : Vec F S1 .f32) (h : ∀ a, (![0] : Fin 1 → Nat) a + (![1] : Fin 1 → Nat) a ≤ S1.size a) (y) :
    View.ld x (Rect.unit (s := S1) ![0] ![1] h) y = x (ix1 0) := by
  unfold View.ld
  congr 1
  funext a
  match a with
  | ⟨0, _⟩ =>
    have : ∀ u v : Fin 1, u = v := fun u v => Subsingleton.elim u v
    exact this _ _

/-- A point of the second call leaves the transposed codes of its block of the first tensor. -/
theorem out_xq (c : Dev nD) (i : grid1.Coords) (a1 : Memref sig .tc .smem S1 .f32) (h1 : a1.IsWhole) (a2 : Memref sig .tc .vmem S512x1920 .bf16) (h2 : a2.IsWhole)
    (a3 : Memref sig .tc .vmem S1920x512 .fp8e4m3) (h3 : a3.IsWhole) (x0 : Vec F S1 .f32) (x1 : Vec F S512x1920 .bf16) :
    out1_A_2 c i a1 h1 a2 h2 a3 h3 x0 x1 = k1_pay1 x1 (x0 (ix1 0)) := by
  unfold out1_A_2
  rw [View.read_writes_eq_canon _ _ _ (cover1_A_2 c i a1 h1 a2 h2 a3 h3 x0 x1)]
  unfold kernelRun1_A
  dsimp only
  sl_unfold_words
  rw [View.canon_unit_zero (S := S1920x512) zero_offsets]
  simp only [View.readAt_eq_ld, h1.read_unread, h2.read_unread, View.ld_unit_zero (S := S512x1920) zero_offsets]
  exact congrArg (k1_pay1 x1) (ld_one _ _ _)

/-! ## The third pallas_call: the second tensor's codes and the product -/

section Wgrad

variable (c : Dev nD) (i : grid2.Coords) (a1 : Memref sig .tc .smem S1 .f32) (h1 : a1.IsWhole) (a2 : Memref sig .tc .smem S1 .f32) (h2 : a2.IsWhole)
  (a3 : Memref sig .tc .vmem S1920x6144 .fp8e4m3) (h3 : a3.IsWhole) (a4 : Memref sig .tc .vmem S6144x256 .bf16) (h4 : a4.IsWhole)
  (a5 : Memref sig .tc .vmem S1920x256 .f32) (h5 : a5.IsWhole) (a6 : Memref sig .tc .vmem S256x6144 .fp8e5m2) (h6 : a6.IsWhole)
  (x0 : Vec F S1 .f32) (x1 : Vec F S1 .f32) (x2 : Vec F S1920x6144 .fp8e4m3) (x3 : Vec F S6144x256 .bf16)

/-- A point of the third call leaves its columns of the product -/
theorem out_dw : out2_A_4 c i a1 h1 a2 h2 a3 h3 a4 h4 a5 h5 a6 h6 x0 x1 x2 x3 = k2_pay3 x3 (x0 (ix1 0)) x2 (x1 (ix1 0)) := by
  unfold out2_A_4
  rw [View.read_writes_eq_canon _ _ _ (cover2_A_4 c i a1 h1 a2 h2 a3 h3 a4 h4 a5 h5 a6 h6 x0 x1 x2 x3)]
  unfold kernelRun2_A
  dsimp only
  sl_unfold_words
  rw [View.canon_unit_zero (S := S1920x256) zero_offsets]
  simp only [View.readAt_eq_ld, h1.read_unread, h2.read_unread, h3.read_unread, h4.read_unread, View.ld_unit_zero (S := S6144x256) zero_offsets, View.ld_unit_zero (S := S1920x6144) zero_offsets]
  exact congrArg₂ (fun u v => k2_pay3 x3 u x2 v) (ld_one _ _ _) (ld_one _ _ _)
/-- and the transposed codes of its block of the second tensor. -/
theorem out_dyT : out2_A_5 c i a1 h1 a2 h2 a3 h3 a4 h4 a5 h5 a6 h6 x0 x1 x2 x3 = k2_pay2 x3 (x0 (ix1 0)) := by
  unfold out2_A_5
  rw [View.read_writes_eq_canon _ _ _ (cover2_A_5 c i a1 h1 a2 h2 a3 h3 a4 h4 a5 h5 a6 h6 x0 x1 x2 x3)]
  unfold kernelRun2_A
  dsimp only
  sl_unfold_words
  rw [View.canon_unit_zero (S := S256x6144) zero_offsets]
  simp only [View.readAt_eq_ld, h1.read_unread, h4.read_unread, View.ld_unit_zero (S := S6144x256) zero_offsets]
  exact congrArg (k2_pay2 x3) (ld_one _ _ _)

end Wgrad

end Cases

/-! ## The payloads at an index, over the extended reals -/

/-- The words of −∞ read as the least extended real. -/
theorem ninf16 : Ideal.ofBits .bf16 0xFF80#16 = ⊥ := by
  simp [Ideal.ofBits, Ideal.ieee]
theorem ninf32 : Ideal.ofBits .f32 0xFF800000#32 = ⊥ := by
  simp [Ideal.ofBits, Ideal.ieee]

theorem k0_pay1_apply (j : S16x1920.Idx) : k0_pay1 (F := Ideal) j = 0 := by
  unfold k0_pay1
  pointwise

/-- An entry of accumulator 0 after a block: under `b` when it was before and every magnitude of the block's sixteen rows
    that share the entry's residue is. -/
theorem k0_pay3_le (acc : Vec Ideal S16x1920 .bf16) (x : Vec Ideal S256x1920 .bf16) (r : Fin 16) (f : Fin 1920) (b : EReal) :
    k0_pay3 acc x (ix2 r f) ≤ b ↔ acc (ix2 r f) ≤ b
      ∧ ∀ q : Fin 16, max (α := EReal) (x (ix2 ⟨q.val * 16 + r.val, by omega⟩ f)) (-(x (ix2 ⟨q.val * 16 + r.val, by omega⟩ f) : EReal)) ≤ b := by
  have h : k0_pay3 acc x (ix2 r f) = max (α := EReal) (acc (ix2 r f)) (Finset.fold max (Ideal.ofBits .bf16 0xFF80#16)
      (fun q : Fin 16 => max (α := EReal) (x (ix2 ⟨q.val * 16 + r.val, by omega⟩ f)) (-(x (ix2 ⟨q.val * 16 + r.val, by omega⟩ f) : EReal))) Finset.univ) := by
    unfold k0_pay3
    pointwise
    rfl
  rw [h, max_le_iff, Finset.fold_max_le, ninf16]
  simp

/-- What is stored of accumulator 0: its greatest entry. -/
theorem k0_pay5_le (acc : Vec Ideal S16x1920 .bf16) (j : S1x1.Idx) (b : EReal) :
    k0_pay5 acc j ≤ b ↔ ∀ (r : Fin 16) (f : Fin 1920), acc (ix2 r f) ≤ b := by
  have h : k0_pay5 acc j = Finset.fold max (Ideal.ofBits .f32 0xFF800000#32) (fun x : Fin 16 × Fin 1920 => acc (ix2 x.1 x.2)) Finset.univ := by
    unfold k0_pay5
    pointwise
  rw [h, Finset.fold_max_le, ninf32]
  simp [Prod.forall]

theorem k0_pay2_apply (j : S16x5376.Idx) : k0_pay2 (F := Ideal) j = 0 := by
  unfold k0_pay2
  pointwise

/-- An entry of accumulator 1 after a block: under `b` when it was before and every magnitude of the block's sixteen rows
    that share the entry's residue is. -/
theorem k0_pay4_le (acc : Vec Ideal S16x5376 .bf16) (x : Vec Ideal S256x5376 .bf16) (r : Fin 16) (f : Fin 5376) (b : EReal) :
    k0_pay4 acc x (ix2 r f) ≤ b ↔ acc (ix2 r f) ≤ b
      ∧ ∀ q : Fin 16, max (α := EReal) (x (ix2 ⟨q.val * 16 + r.val, by omega⟩ f)) (-(x (ix2 ⟨q.val * 16 + r.val, by omega⟩ f) : EReal)) ≤ b := by
  have h : k0_pay4 acc x (ix2 r f) = max (α := EReal) (acc (ix2 r f)) (Finset.fold max (Ideal.ofBits .bf16 0xFF80#16)
      (fun q : Fin 16 => max (α := EReal) (x (ix2 ⟨q.val * 16 + r.val, by omega⟩ f)) (-(x (ix2 ⟨q.val * 16 + r.val, by omega⟩ f) : EReal))) Finset.univ) := by
    unfold k0_pay4
    pointwise
    rfl
  rw [h, max_le_iff, Finset.fold_max_le, ninf16]
  simp

/-- What is stored of accumulator 1: its greatest entry. -/
theorem k0_pay6_le (acc : Vec Ideal S16x5376 .bf16) (j : S1x1.Idx) (b : EReal) :
    k0_pay6 acc j ≤ b ↔ ∀ (r : Fin 16) (f : Fin 5376), acc (ix2 r f) ≤ b := by
  have h : k0_pay6 acc j = Finset.fold max (Ideal.ofBits .f32 0xFF800000#32) (fun x : Fin 16 × Fin 5376 => acc (ix2 x.1 x.2)) Finset.univ := by
    unfold k0_pay6
    pointwise
  rw [h, Finset.fold_max_le, ninf32]
  simp [Prod.forall]

/-- A magnitude-clipped quotient: what both quantisers compute before the rounding to a code. -/
abbrev clipped (lo hi : BitVec 32) (x s : EReal) : EReal := min (Ideal.ofBits .f32 hi) (max (Ideal.ofBits .f32 lo) (x * s))

theorem k1_pay1_apply (x : Vec Ideal S512x1920 .bf16) (s : Elt Ideal .f32) (f : Fin 1920) (t : Fin 512) :
    k1_pay1 x s (ix2 f t) = clipped 0xC3E00000#32 0x43E00000#32 (x (ix2 t f)) s := by
  unfold k1_pay1
  pointwise

theorem k2_pay1_apply (y : Vec Ideal S6144x256 .bf16) (s : Elt Ideal .f32) (t : Fin 6144) (o : Fin 256) :
    k2_pay1 y s (ix2 t o) = clipped 0xC7600000#32 0x47600000#32 (y (ix2 t o)) s := by
  unfold k2_pay1
  pointwise

theorem k2_pay2_apply (y : Vec Ideal S6144x256 .bf16) (s : Elt Ideal .f32) (o : Fin 256) (t : Fin 6144) :
    k2_pay2 y s (ix2 o t) = clipped 0xC7600000#32 0x47600000#32 (y (ix2 t o)) s := by
  unfold k2_pay2 k2_pay1
  pointwise

theorem k2_pay3_apply (y : Vec Ideal S6144x256 .bf16) (s : Elt Ideal .f32) (xT : Vec Ideal S1920x6144 .fp8e4m3) (w : Elt Ideal .f32)
    (f : Fin 1920) (o : Fin 256) :
    k2_pay3 y s xT w (ix2 f o)
      = HMul.hMul (α := EReal) (β := EReal) (∑ t : Fin 6144, HMul.hMul (α := EReal) (β := EReal) (xT (ix2 f t)) (clipped 0xC7600000#32 0x47600000#32 (y (ix2 t o)) s)) w := by
  unfold k2_pay3 k2_pay1
  pointwise

end Cert.KernelIdeal.Run

end
-- ==== Proof.KernelAmax.lean ====
/- The first pallas_call over the extended reals: after its twenty-four points its two results hold the greatest magnitude
   of each tensor as the call finds it. The accumulators are characterised by their upper bounds: an entry is under a bound
   when zero and every magnitude met so far in its residue of rows are. -/
module

public import proofs.«01_k».proof.Proof.KernelBlocks
public import proofs.«01_k».proof.Proof.Scale

@[expose] public section

set_option maxRecDepth 16384

noncomputable section

namespace Cert.KernelIdeal.Run

open Cert.KernelIdeal Cert.KernelIdeal.Gen Cert.Spec
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b)) (c : Dev nD)

/-- The magnitude of an extended real. -/
abbrev mag (x : EReal) : EReal := max x (-x)

/-- Every index of two axes is its pair of coordinates. -/
theorem ix2_surj {a b : Nat} (j : (⟨2, ![a, b]⟩ : Shape).Idx) : ∃ (p : Fin a) (q : Fin b), j = ix2 p q :=
  ⟨j 0, j 1, funext fun k => by match k with | ⟨0, _⟩ => rfl | ⟨1, _⟩ => rfl⟩

theorem index0_0 : ∀ t : Fin cfg0.N, win0_0.index t 0 = t.val ∧ win0_0.index t 1 = 0 :=
  (by decide +kernel : ∀ t : Fin grid0.N, _)
theorem index0_1 : ∀ t : Fin cfg0.N, win0_1.index t 0 = t.val ∧ win0_1.index t 1 = 0 :=
  (by decide +kernel : ∀ t : Fin grid0.N, _)

/-- The first tensor's block at a point: 256 rows from row 256 times the point. -/
theorem block0_0 (t : Fin cfg0.N) (s : Fin 256) (f : Fin 1920) (p : Fin 6144) (hp : p.val = 256 * t.val + s.val) :
    iblk0 V c 0 t (ix2 s f) = V c main_v0 (ix2 p f) := by
  unfold iblk0
  rw [View.read_apply]
  show V c main_v0 _ = V c main_v0 _
  congr 1
  funext a
  apply Fin.ext
  match a with
  | ⟨0, _⟩ => show win0_0.index t 0 * 256 + 1 * s.val = p.val; rw [(index0_0 t).1, hp]; omega
  | ⟨1, _⟩ => show win0_0.index t 1 * 1920 + 1 * f.val = f.val; rw [(index0_0 t).2]; omega

/-- The second tensor's block at a point. -/
theorem block0_1 (t : Fin cfg0.N) (s : Fin 256) (f : Fin 5376) (p : Fin 6144) (hp : p.val = 256 * t.val + s.val) :
    iblk0 V c 1 t (ix2 s f) = V c main_v1 (ix2 p f) := by
  unfold iblk0
  rw [View.read_apply]
  show V c main_v1 _ = V c main_v1 _
  congr 1
  funext a
  apply Fin.ext
  match a with
  | ⟨0, _⟩ => show win0_1.index t 0 * 256 + 1 * s.val = p.val; rw [(index0_1 t).1, hp]; omega
  | ⟨1, _⟩ => show win0_1.index t 1 * 5376 + 1 * f.val = f.val; rw [(index0_1 t).2]; omega

/-! ### The two accumulators after a point: raised, by the point's blocks, from what the point before left, or from zero -/

theorem acc0_zero (h : 0 < cfg0.N) : (outsAt0 V c 0 h).2.2.1 = k0_pay3 (k0_pay1 (F := Ideal)) (iblk0 V c 0 ⟨0, h⟩) := by
  have h1 : ¬(⟨0, h⟩ : Fin cfg0.N).val % 24 = 23 := by dsimp only; omega
  have e := congrArg (fun o => o.2.2.1) (outsAt0_A V c ⟨0, h⟩ (Nat.zero_mod _) h1)
  dsimp only at e
  rw [e, sout_A0]

theorem acc0_succ (n : ℕ) (h : n + 1 < cfg0.N) :
    (outsAt0 V c (n + 1) h).2.2.1 = k0_pay3 (outsAt0 V c n (Nat.lt_of_succ_lt h)).2.2.1 (iblk0 V c 0 ⟨n + 1, h⟩) := by
  have hN : n + 1 < 24 := lt_of_lt_of_eq h N_0
  have h0 : ¬(⟨n + 1, h⟩ : Fin cfg0.N).val % 24 = 0 := by dsimp only; omega
  by_cases h1 : (⟨n + 1, h⟩ : Fin cfg0.N).val % 24 = 23
  · have e := congrArg (fun o => o.2.2.1) (outsAt0_C V c ⟨n + 1, h⟩ h0 h1)
    dsimp only at e
    rw [e, sout_C0]
    rfl
  · have e := congrArg (fun o => o.2.2.1) (outsAt0_B V c ⟨n + 1, h⟩ h0 h1)
    dsimp only at e
    rw [e, sout_B0]
    rfl

theorem acc1_zero (h : 0 < cfg0.N) : (outsAt0 V c 0 h).2.2.2 = k0_pay4 (k0_pay2 (F := Ideal)) (iblk0 V c 1 ⟨0, h⟩) := by
  have h1 : ¬(⟨0, h⟩ : Fin cfg0.N).val % 24 = 23 := by dsimp only; omega
  have e := congrArg (fun o => o.2.2.2) (outsAt0_A V c ⟨0, h⟩ (Nat.zero_mod _) h1)
  dsimp only at e
  rw [e, sout_A1]

theorem acc1_succ (n : ℕ) (h : n + 1 < cfg0.N) :
    (outsAt0 V c (n + 1) h).2.2.2 = k0_pay4 (outsAt0 V c n (Nat.lt_of_succ_lt h)).2.2.2 (iblk0 V c 1 ⟨n + 1, h⟩) := by
  have hN : n + 1 < 24 := lt_of_lt_of_eq h N_0
  have h0 : ¬(⟨n + 1, h⟩ : Fin cfg0.N).val % 24 = 0 := by dsimp only; omega
  by_cases h1 : (⟨n + 1, h⟩ : Fin cfg0.N).val % 24 = 23
  · have e := congrArg (fun o => o.2.2.2) (outsAt0_C V c ⟨n + 1, h⟩ h0 h1)
    dsimp only at e
    rw [e, sout_C1]
    rfl
  · have e := congrArg (fun o => o.2.2.2) (outsAt0_B V c ⟨n + 1, h⟩ h0 h1)
    dsimp only at e
    rw [e, sout_B1]
    rfl

/-- The upper bounds of a running maximum: zero and every value met so far, sixteen rows a point, one residue of rows. -/
def Under (v : Fin 6144 → EReal) (r : Fin 16) (n : ℕ) (b : EReal) : Prop :=
  0 ≤ b ∧ ∀ p : Fin 6144, p.val < 256 * (n + 1) → p.val % 16 = r.val → mag (v p) ≤ b

theorem under_zero (v : Fin 6144 → EReal) (r : Fin 16) (b : EReal) (x : Fin 16 → EReal)
    (hx : ∀ (q : Fin 16) (p : Fin 6144), p.val = 256 * 0 + (q.val * 16 + r.val) → x q = v p) :
    ((0 : EReal) ≤ b ∧ ∀ q, mag (x q) ≤ b) ↔ Under v r 0 b := by
  refine and_congr_right fun _ => ⟨fun h p hp hr => ?_, fun h q => ?_⟩
  · have := h ⟨p.val / 16, by omega⟩
    rwa [hx ⟨p.val / 16, by omega⟩ p (by dsimp only; omega)] at this
  · have e := hx q ⟨256 * 0 + (q.val * 16 + r.val), by omega⟩ rfl
    rw [e]
    exact h _ (by dsimp only; omega) (by dsimp only; omega)

theorem under_succ (v : Fin 6144 → EReal) (r : Fin 16) (n : ℕ) (hn : n + 1 < 24) (b : EReal) (x : Fin 16 → EReal)
    (hx : ∀ (q : Fin 16) (p : Fin 6144), p.val = 256 * (n + 1) + (q.val * 16 + r.val) → x q = v p) :
    (Under v r n b ∧ ∀ q, mag (x q) ≤ b) ↔ Under v r (n + 1) b := by
  constructor
  · rintro ⟨⟨h0, h⟩, hq⟩
    refine ⟨h0, fun p hp hr => ?_⟩
    by_cases hlt : p.val < 256 * (n + 1)
    · exact h p hlt hr
    · have := hq ⟨(p.val - 256 * (n + 1)) / 16, by omega⟩
      rwa [hx ⟨(p.val - 256 * (n + 1)) / 16, by omega⟩ p (by dsimp only; omega)] at this
  · rintro ⟨h0, h⟩
    refine ⟨⟨h0, fun p hp hr => h p (by omega) hr⟩, fun q => ?_⟩
    have e := hx q ⟨256 * (n + 1) + (q.val * 16 + r.val), by omega⟩ rfl
    rw [e]
    exact h _ (by dsimp only; omega) (by dsimp only; omega)

/-- The first accumulator after any point. -/
theorem acc0_le (r : Fin 16) (f : Fin 1920) (b : EReal) : ∀ (n : ℕ) (h : n < cfg0.N),
    (outsAt0 V c n h).2.2.1 (ix2 r f) ≤ b ↔ Under (fun p => V c main_v0 (ix2 p f)) r n b
  | 0, h => by
    rw [acc0_zero]
    refine (k0_pay3_le _ _ r f b).trans ?_
    rw [k0_pay1_apply]
    exact under_zero (fun p => V c main_v0 (ix2 p f)) r b _ fun q p hp => block0_0 V c _ _ f p hp
  | n + 1, h => by
    rw [acc0_succ]
    refine (k0_pay3_le _ _ r f b).trans ?_
    rw [acc0_le r f b n]
    exact under_succ (fun p => V c main_v0 (ix2 p f)) r n (lt_of_lt_of_eq h N_0) b _ fun q p hp => block0_0 V c _ _ f p hp

/-- The second accumulator after any point. -/
theorem acc1_le (r : Fin 16) (f : Fin 5376) (b : EReal) : ∀ (n : ℕ) (h : n < cfg0.N),
    (outsAt0 V c n h).2.2.2 (ix2 r f) ≤ b ↔ Under (fun p => V c main_v1 (ix2 p f)) r n b
  | 0, h => by
    rw [acc1_zero]
    refine (k0_pay4_le _ _ r f b).trans ?_
    rw [k0_pay2_apply]
    exact under_zero (fun p => V c main_v1 (ix2 p f)) r b _ fun q p hp => block0_1 V c _ _ f p hp
  | n + 1, h => by
    rw [acc1_succ]
    refine (k0_pay4_le _ _ r f b).trans ?_
    rw [acc1_le r f b n]
    exact under_succ (fun p => V c main_v1 (ix2 p f)) r n (lt_of_lt_of_eq h N_0) b _ fun q p hp => block0_1 V c _ _ f p hp

/-- Under the last point's bounds in every residue and column means over every magnitude of the tensor. -/
theorem under_last {C : Nat} (hC : 0 < C) (x : (⟨2, ![6144, C]⟩ : Shape).Idx → EReal) (b : EReal) :
    (∀ (r : Fin 16) (f : Fin C), Under (fun p => x (ix2 p f)) r 23 b) ↔ amax x ≤ b := by
  rw [amax_le_iff]
  constructor
  · intro h i
    obtain ⟨p, f, rfl⟩ := ix2_surj i
    exact (h ⟨p.val % 16, by omega⟩ f).2 p (by omega) rfl
  · intro h r f
    exact ⟨(abs_nonneg _).trans (h (ix2 0 ⟨0, hC⟩)), fun p _ _ => h _⟩

/-- What the last point stores: the greatest magnitude of each tensor. -/
theorem last_out0 (h : 23 < cfg0.N) (j : S1x1.Idx) : (outsAt0 V c 23 h).1 j = amax (V c main_v0 : S6144x1920.Idx → EReal) := by
  have h0 : ¬(⟨23, h⟩ : Fin cfg0.N).val % 24 = 0 := by dsimp only; omega
  have h1 : (⟨23, h⟩ : Fin cfg0.N).val % 24 = 23 := by dsimp only
  have e : (outsAt0 V c 23 h).1 = k0_pay5 (outsAt0 V c 23 h).2.2.1 := by
    have e1 := congrArg (fun o => o.1) (outsAt0_C V c ⟨23, h⟩ h0 h1)
    have e2 := congrArg (fun o => o.2.2.1) (outsAt0_C V c ⟨23, h⟩ h0 h1)
    dsimp only at e1 e2
    rw [e1, e2, out_C0, sout_C0]
  rw [e]
  refine eq_of_forall_ge_iff fun b => (k0_pay5_le _ j b).trans ?_
  rw [← under_last (by decide)]
  exact forall_congr' fun r => forall_congr' fun f => acc0_le V c r f b 23 h

theorem last_out1 (h : 23 < cfg0.N) (j : S1x1.Idx) : (outsAt0 V c 23 h).2.1 j = amax (V c main_v1 : S6144x5376.Idx → EReal) := by
  have h0 : ¬(⟨23, h⟩ : Fin cfg0.N).val % 24 = 0 := by dsimp only; omega
  have h1 : (⟨23, h⟩ : Fin cfg0.N).val % 24 = 23 := by dsimp only
  have e : (outsAt0 V c 23 h).2.1 = k0_pay6 (outsAt0 V c 23 h).2.2.2 := by
    have e1 := congrArg (fun o => o.2.1) (outsAt0_C V c ⟨23, h⟩ h0 h1)
    have e2 := congrArg (fun o => o.2.2.2) (outsAt0_C V c ⟨23, h⟩ h0 h1)
    dsimp only at e1 e2
    rw [e1, e2, out_C1, sout_C1]
  rw [e]
  refine eq_of_forall_ge_iff fun b => (k0_pay6_le _ j b).trans ?_
  rw [← under_last (by decide)]
  exact forall_congr' fun r => forall_congr' fun f => acc1_le V c r f b 23 h

theorem flushed0_2 (t : Fin cfg0.N) :
    (dat0 V c).flushed 2 t = (cfg0.win 2).cut (grid0.coords t) ((outsAt0 V c t.val t.isLt).1) := by
  show (cfg0.win 2).cut (grid0.coords t) ((dat0 V c).after 2 t) = _
  rw [after0_2]

theorem flushed0_3 (t : Fin cfg0.N) :
    (dat0 V c).flushed 3 t = (cfg0.win 3).cut (grid0.coords t) ((outsAt0 V c t.val t.isLt).2.1) := by
  show (cfg0.win 3).cut (grid0.coords t) ((dat0 V c).after 3 t) = _
  rw [after0_3]

/-- After the call its first result holds the first tensor's greatest magnitude, -/
theorem array0_2 : (dat0 V c).arrAt 2 cfg0.N = fun _ => amax (V c main_v0 : S6144x1920.Idx → EReal) := by
  have h23 : 23 < cfg0.N := by rw [show cfg0.N = 24 from N_0]; decide
  refine (dat0 V c).arrAt_eq_of_cover 2 _ (fun t hf => ?_) fun i => ⟨⟨23, h23⟩, (flush0_2 _).mpr rfl, ?_⟩
  · have h3 : t.val = 23 := by
      have := (flush0_2 t).mp hf
      have : t.val < 24 := lt_of_lt_of_eq t.isLt N_0
      omega
    have e : ∀ (n : ℕ) (hn : n < cfg0.N), n = 23 → (outsAt0 V c n hn).1 = fun _ => amax (V c main_v0 : S6144x1920.Idx → EReal) := by
      rintro n hn rfl
      exact funext (last_out0 V c hn)
    rw [flushed0_2, e t.val t.isLt h3]
    generalize amax (V c main_v0 : S6144x1920.Idx → EReal) = a
    funext j
    rfl
  · show i ∈ ((View.whole main_v2_0).slice (win0_2.rect ⟨23, h23⟩)).set
    rw [View.set_slice_whole, Rect.mem_set_unit]
    intro a
    have h0 : (i 0 : Nat) < 1 := (i 0).isLt
    have h1 : (i 1 : Nat) < 1 := (i 1).isLt
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

/-- and its second the second tensor's. -/
theorem array0_3 : (dat0 V c).arrAt 3 cfg0.N = fun _ => amax (V c main_v1 : S6144x5376.Idx → EReal) := by
  have h23 : 23 < cfg0.N := by rw [show cfg0.N = 24 from N_0]; decide
  refine (dat0 V c).arrAt_eq_of_cover 3 _ (fun t hf => ?_) fun i => ⟨⟨23, h23⟩, (flush0_3 _).mpr rfl, ?_⟩
  · have h3 : t.val = 23 := by
      have := (flush0_3 t).mp hf
      have : t.val < 24 := lt_of_lt_of_eq t.isLt N_0
      omega
    have e : ∀ (n : ℕ) (hn : n < cfg0.N), n = 23 → (outsAt0 V c n hn).2.1 = fun _ => amax (V c main_v1 : S6144x5376.Idx → EReal) := by
      rintro n hn rfl
      exact funext (last_out1 V c hn)
    rw [flushed0_3, e t.val t.isLt h3]
    generalize amax (V c main_v1 : S6144x5376.Idx → EReal) = a
    funext j
    rfl
  · show i ∈ ((View.whole main_v2_1).slice (win0_3.rect ⟨23, h23⟩)).set
    rw [View.set_slice_whole, Rect.mem_set_unit]
    intro a
    have h0 : (i 0 : Nat) < 1 := (i 0).isLt
    have h1 : (i 1 : Nat) < 1 := (i 1).isLt
    match a with
    | ⟨0, _⟩ => show 0 * 1 ≤ (i 0 : Nat) ∧ (i 0 : Nat) < 0 * 1 + 1; omega
    | ⟨1, _⟩ => show 0 * 1 ≤ (i 1 : Nat) ∧ (i 1 : Nat) < 0 * 1 + 1; omega

end Cert.KernelIdeal.Run

end
-- ==== Proof.KernelQuant.lean ====
/- The second and the third pallas_call over the extended reals: what their result arrays hold, from what the calls find.
   Each result is one function of the arrays the call reads, block by block the function's own block. -/
module

public import proofs.«01_k».proof.Proof.KernelBlocks

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat)

variable (V : (c : Dev nD) → (b : Ref sig .tc) → Buf (Elt Ideal) ((c : Thread nD τ).loc b)) (c : Dev nD)

/-! ## The second call: the first tensor's codes -/

theorem index1_1 : ∀ t : Fin cfg1.N, win1_1.index t 0 = t.val ∧ win1_1.index t 1 = 0 :=
  (by decide +kernel : ∀ t : Fin grid1.N, _)
theorem index1_2 : ∀ t : Fin cfg1.N, win1_2.index t 0 = 0 ∧ win1_2.index t 1 = t.val :=
  (by decide +kernel : ∀ t : Fin grid1.N, _)

/-- The inverse scale the call is handed, whichever point reads it. -/
theorem block1_0 (t : Fin cfg1.N) : iblk1 V c 0 t (ix1 0) = V c main_v35 (ix1 0) := by
  unfold iblk1
  rw [View.read_apply]
  show V c main_v35 _ = V c main_v35 _
  congr 1
  funext a
  match a with
  | ⟨0, _⟩ =>
    have : ∀ u v : Fin 1, u = v := fun u v => Subsingleton.elim u v
    exact this _ _

/-- The first tensor's block at a point: 512 rows from row 512 times the point. -/
theorem block1_1 (t : Fin cfg1.N) (s : Fin 512) (f : Fin 1920) (p : Fin 6144) (hp : p.val = 512 * t.val + s.val) :
    iblk1 V c 1 t (ix2 s f) = V c main_v0 (ix2 p f) := by
  unfold iblk1
  rw [View.read_apply]
  show V c main_v0 _ = V c main_v0 _
  congr 1
  funext a
  apply Fin.ext
  match a with
  | ⟨0, _⟩ => show win1_1.index t 0 * 512 + 1 * s.val = p.val; rw [(index1_1 t).1, hp]; omega
  | ⟨1, _⟩ => show win1_1.index t 1 * 1920 + 1 * f.val = f.val; rw [(index1_1 t).2]; omega

/-- The codes of the first tensor, transposed: scaled by the inverse scale and clipped to e4m3's range. -/
def codesX : Buf (Elt Ideal) ((c : Thread nD τ).loc main_v69) := fun i =>
  clipped 0xC3E00000#32 0x43E00000#32 (V c main_v0 (ix2 (i 1) (i 0))) (V c main_v35 (ix1 0))

theorem flushed1_2 (t : Fin cfg1.N) :
    (dat1 V c).flushed 2 t = (cfg1.win 2).cut (grid1.coords t) (outsAt1 V c t) := by
  show (cfg1.win 2).cut (grid1.coords t) ((dat1 V c).after 2 t) = _
  rw [after1_2]

/-- What a point of the second call leaves, at an index. -/
theorem outsAt1_apply (t : Fin cfg1.N) (f : Fin 1920) (s : Fin 512) (p : Fin 6144) (hp : p.val = 512 * t.val + s.val) :
    outsAt1 V c t (ix2 f s) = clipped 0xC3E00000#32 0x43E00000#32 (V c main_v0 (ix2 p f)) (V c main_v35 (ix1 0)) := by
  unfold outsAt1
  rw [out_xq, k1_pay1_apply, block1_0, block1_1 V c t s f p hp]

/-- The part of a block that is written back is the block. -/
theorem cut1_2 (t : Fin cfg1.N) (X : Vec Ideal S1920x512 .fp8e4m3) (j : ((cfg1.win 2).xblock (cfg1.grid.coords t)).Idx) (p : Fin 1920) (q : Fin 512)
    (hp : p.val = (j 0).val) (hq : q.val = (j 1).val) : (cfg1.win 2).cut (grid1.coords t) X j = X (ix2 p q) := by
  show X _ = X _
  congr 1
  funext a
  apply Fin.ext
  match a with
  | ⟨0, _⟩ => exact hp.symm
  | ⟨1, _⟩ => exact hq.symm

/-- A point's block of contents of the array. -/
theorem read1_2 (t : Fin cfg1.N) (X : Buf (Elt Ideal) ((c : Thread nD τ).loc main_v69)) (j : ((cfg1.win 2).xblock (cfg1.grid.coords t)).Idx) (p : Fin 1920) (q : Fin 6144)
    (hp : p.val = (j 0).val) (hq : q.val = 512 * t.val + (j 1).val) : ((cfg1.win 2).blk t).view.read (Elt Ideal) X j = X (ix2 p q) := by
  rw [View.read_apply]
  show X _ = X _
  congr 1
  funext a
  apply Fin.ext
  match a with
  | ⟨0, _⟩ => show win1_2.index t 0 * 1920 + 1 * (j 0).val = p.val; rw [(index1_2 t).1, hp]; omega
  | ⟨1, _⟩ => show win1_2.index t 1 * 512 + 1 * (j 1).val = q.val; rw [(index1_2 t).2, hq]; omega

/-- After the second call its result holds those codes. -/
theorem array1_2 : (dat1 V c).arrAt 2 cfg1.N = codesX V c := by
  have hN : cfg1.N = 12 := N_1
  refine (dat1 V c).arrAt_eq_of_cover 2 _ (fun t _ => ?_) fun i => ?_
  · have ht : t.val < 12 := lt_of_lt_of_eq t.isLt hN
    rw [flushed1_2]
    funext j
    have hj0 : (j 0).val < 1920 := (j 0).isLt
    have hj1 : (j 1).val < 512 := (j 1).isLt
    rw [cut1_2 t _ j ⟨(j 0).val, hj0⟩ ⟨(j 1).val, hj1⟩ rfl rfl, read1_2 c t _ j ⟨(j 0).val, hj0⟩ ⟨512 * t.val + (j 1).val, by omega⟩ rfl rfl]
    exact outsAt1_apply V c t _ _ _ rfl
  · have h0 : (i 0 : Nat) < 1920 := (i 0).isLt
    have h1 : (i 1 : Nat) < 6144 := (i 1).isLt
    obtain ⟨t, ht⟩ : ∃ t : Fin cfg1.N, t.val = (i 1 : Nat) / 512 := ⟨⟨(i 1 : Nat) / 512, by rw [hN]; omega⟩, rfl⟩
    refine ⟨t, flush1_2 t, ?_⟩
    show i ∈ ((View.whole main_v69).slice (win1_2.rect t)).set
    rw [View.set_slice_whole, Rect.mem_set_unit]
    intro a
    match a with
    | ⟨0, _⟩ => show win1_2.index t 0 * 1920 ≤ (i 0 : Nat) ∧ (i 0 : Nat) < win1_2.index t 0 * 1920 + 1920; rw [(index1_2 t).1]; omega
    | ⟨1, _⟩ => show win1_2.index t 1 * 512 ≤ (i 1 : Nat) ∧ (i 1 : Nat) < win1_2.index t 1 * 512 + 512; rw [(index1_2 t).2]; omega

/-! ## The third call: the second tensor's codes and the product -/

theorem index2_2 : ∀ t : Fin cfg2.N, win2_2.index t 0 = 0 ∧ win2_2.index t 1 = 0 :=
  (by decide +kernel : ∀ t : Fin grid2.N, _)
theorem index2_3 : ∀ t : Fin cfg2.N, win2_3.index t 0 = 0 ∧ win2_3.index t 1 = t.val :=
  (by decide +kernel : ∀ t : Fin grid2.N, _)
theorem index2_4 : ∀ t : Fin cfg2.N, win2_4.index t 0 = 0 ∧ win2_4.index t 1 = t.val :=
  (by decide +kernel : ∀ t : Fin grid2.N, _)
theorem index2_5 : ∀ t : Fin cfg2.N, win2_5.index t 0 = t.val ∧ win2_5.index t 1 = 0 :=
  (by decide +kernel : ∀ t : Fin grid2.N, _)

/-- The second tensor's inverse scale, whichever point reads it, -/
theorem block2_0 (t : Fin cfg2.N) : iblk2 V c 0 t (ix1 0) = V c main_v68 (ix1 0) := by
  unfold iblk2
  rw [View.read_apply]
  show V c main_v68 _ = V c main_v68 _
  congr 1
  funext a
  match a with
  | ⟨0, _⟩ =>
    have : ∀ u v : Fin 1, u = v := fun u v => Subsingleton.elim u v
    exact this _ _
/-- the product of the two scales, -/
theorem block2_1 (t : Fin cfg2.N) : iblk2 V c 1 t (ix1 0) = V c main_v70 (ix1 0) := by
  unfold iblk2
  rw [View.read_apply]
  show V c main_v70 _ = V c main_v70 _
  congr 1
  funext a
  match a with
  | ⟨0, _⟩ =>
    have : ∀ u v : Fin 1, u = v := fun u v => Subsingleton.elim u v
    exact this _ _
/-- the first tensor's codes, whole at every point, -/
theorem block2_2 (t : Fin cfg2.N) (f : Fin 1920) (s : Fin 6144) : iblk2 V c 2 t (ix2 f s) = V c main_v69 (ix2 f s) := by
  unfold iblk2
  rw [View.read_apply]
  show V c main_v69 _ = V c main_v69 _
  congr 1
  funext a
  apply Fin.ext
  match a with
  | ⟨0, _⟩ => show win2_2.index t 0 * 1920 + 1 * f.val = f.val; rw [(index2_2 t).1]; omega
  | ⟨1, _⟩ => show win2_2.index t 1 * 6144 + 1 * s.val = s.val; rw [(index2_2 t).2]; omega
/-- and the second tensor's block: 256 columns from column 256 times the point. -/
theorem block2_3 (t : Fin cfg2.N) (s : Fin 6144) (o : Fin 256) (q : Fin 5376) (hq : q.val = 256 * t.val + o.val) :
    iblk2 V c 3 t (ix2 s o) = V c main_v1 (ix2 s q) := by
  unfold iblk2
  rw [View.read_apply]
  show V c main_v1 _ = V c main_v1 _
  congr 1
  funext a
  apply Fin.ext
  match a with
  | ⟨0, _⟩ => show win2_3.index t 0 * 6144 + 1 * s.val = s.val; rw [(index2_3 t).1]; omega
  | ⟨1, _⟩ => show win2_3.index t 1 * 256 + 1 * o.val = q.val; rw [(index2_3 t).2, hq]; omega

/-- The codes of the second tensor, transposed: scaled by the inverse scale and clipped to e5m2's range. -/
def codesY : Buf (Elt Ideal) ((c : Thread nD τ).loc main_v71_1) := fun i =>
  clipped 0xC7600000#32 0x47600000#32 (V c main_v1 (ix2 (i 1) (i 0))) (V c main_v68 (ix1 0))

/-- The product of the two tensors of codes over the tokens, scaled back. -/
def product : Buf (Elt Ideal) ((c : Thread nD τ).loc main_v71_0) := fun i =>
  HMul.hMul (α := EReal) (β := EReal) (∑ s : Fin 6144, HMul.hMul (α := EReal) (β := EReal) (V c main_v69 (ix2 (i 0) s))
    (clipped 0xC7600000#32 0x47600000#32 (V c main_v1 (ix2 s (i 1))) (V c main_v68 (ix1 0)))) (V c main_v70 (ix1 0))

theorem flushed2_4 (t : Fin cfg2.N) :
    (dat2 V c).flushed 4 t = (cfg2.win 4).cut (grid2.coords t) (outsAt2 V c t).1 := by
  show (cfg2.win 4).cut (grid2.coords t) ((dat2 V c).after 4 t) = _
  rw [after2_4]
theorem flushed2_5 (t : Fin cfg2.N) :
    (dat2 V c).flushed 5 t = (cfg2.win 5).cut (grid2.coords t) (outsAt2 V c t).2 := by
  show (cfg2.win 5).cut (grid2.coords t) ((dat2 V c).after 5 t) = _
  rw [after2_5]

/-- What a point of the third call leaves of the product, -/
theorem outsAt2_dw (t : Fin cfg2.N) (f : Fin 1920) (o : Fin 256) (q : Fin 5376) (hq : q.val = 256 * t.val + o.val) :
    (outsAt2 V c t).1 (ix2 f o) = product V c (ix2 f q) := by
  unfold outsAt2
  dsimp only
  rw [out_dw, k2_pay3_apply, block2_0, block2_1]
  unfold product
  congr 1
  refine Finset.sum_congr rfl fun s _ => ?_
  rw [block2_2, block2_3 V c t s o q hq]
  rfl
/-- and of the second tensor's codes. -/
theorem outsAt2_dyT (t : Fin cfg2.N) (o : Fin 256) (s : Fin 6144) (q : Fin 5376) (hq : q.val = 256 * t.val + o.val) :
    (outsAt2 V c t).2 (ix2 o s) = codesY V c (ix2 q s) := by
  unfold outsAt2
  dsimp only
  rw [out_dyT, k2_pay2_apply, block2_0, block2_3 V c t s o q hq]
  rfl

/-- The part of a block that is written back is the block. -/
theorem cut2_4 (t : Fin cfg2.N) (X : Vec Ideal S1920x256 .f32) (j : ((cfg2.win 4).xblock (cfg2.grid.coords t)).Idx) (p : Fin 1920) (q : Fin 256)
    (hp : p.val = (j 0).val) (hq : q.val = (j 1).val) : (cfg2.win 4).cut (grid2.coords t) X j = X (ix2 p q) := by
  show X _ = X _
  congr 1
  funext a
  apply Fin.ext
  match a with
  | ⟨0, _⟩ => exact hp.symm
  | ⟨1, _⟩ => exact hq.symm

/-- A point's block of contents of the array. -/
theorem read2_4 (t : Fin cfg2.N) (X : Buf (Elt Ideal) ((c : Thread nD τ).loc main_v71_0)) (j : ((cfg2.win 4).xblock (cfg2.grid.coords t)).Idx) (p : Fin 1920) (q : Fin 5376)
    (hp : p.val = (j 0).val) (hq : q.val = 256 * t.val + (j 1).val) : ((cfg2.win 4).blk t).view.read (Elt Ideal) X j = X (ix2 p q) := by
  rw [View.read_apply]
  show X _ = X _
  congr 1
  funext a
  apply Fin.ext
  match a with
  | ⟨0, _⟩ => show win2_4.index t 0 * 1920 + 1 * (j 0).val = p.val; rw [(index2_4 t).1, hp]; omega
  | ⟨1, _⟩ => show win2_4.index t 1 * 256 + 1 * (j 1).val = q.val; rw [(index2_4 t).2, hq]; omega

/-- After the third call its first result holds the product, -/
theorem array2_4 : (dat2 V c).arrAt 4 cfg2.N = product V c := by
  have hN : cfg2.N = 21 := N_2
  refine (dat2 V c).arrAt_eq_of_cover 4 _ (fun t _ => ?_) fun i => ?_
  · have ht : t.val < 21 := lt_of_lt_of_eq t.isLt hN
    rw [flushed2_4]
    funext j
    have hj0 : (j 0).val < 1920 := (j 0).isLt
    have hj1 : (j 1).val < 256 := (j 1).isLt
    rw [cut2_4 t _ j ⟨(j 0).val, hj0⟩ ⟨(j 1).val, hj1⟩ rfl rfl, read2_4 c t _ j ⟨(j 0).val, hj0⟩ ⟨256 * t.val + (j 1).val, by omega⟩ rfl rfl]
    exact outsAt2_dw V c t _ _ _ rfl
  · have h0 : (i 0 : Nat) < 1920 := (i 0).isLt
    have h1 : (i 1 : Nat) < 5376 := (i 1).isLt
    obtain ⟨t, ht⟩ : ∃ t : Fin cfg2.N, t.val = (i 1 : Nat) / 256 := ⟨⟨(i 1 : Nat) / 256, by rw [hN]; omega⟩, rfl⟩
    refine ⟨t, flush2_4 t, ?_⟩
    show i ∈ ((View.whole main_v71_0).slice (win2_4.rect t)).set
    rw [View.set_slice_whole, Rect.mem_set_unit]
    intro a
    match a with
    | ⟨0, _⟩ => show win2_4.index t 0 * 1920 ≤ (i 0 : Nat) ∧ (i 0 : Nat) < win2_4.index t 0 * 1920 + 1920; rw [(index2_4 t).1]; omega
    | ⟨1, _⟩ => show win2_4.index t 1 * 256 ≤ (i 1 : Nat) ∧ (i 1 : Nat) < win2_4.index t 1 * 256 + 256; rw [(index2_4 t).2]; omega

/-- The part of a block that is written back is the block. -/
theorem cut2_5 (t : Fin cfg2.N) (X : Vec Ideal S256x6144 .fp8e5m2) (j : ((cfg2.win 5).xblock (cfg2.grid.coords t)).Idx) (p : Fin 256) (q : Fin 6144)
    (hp : p.val = (j 0).val) (hq : q.val = (j 1).val) : (cfg2.win 5).cut (grid2.coords t) X j = X (ix2 p q) := by
  show X _ = X _
  congr 1
  funext a
  apply Fin.ext
  match a with
  | ⟨0, _⟩ => exact hp.symm
  | ⟨1, _⟩ => exact hq.symm

/-- A point's block of contents of the array. -/
theorem read2_5 (t : Fin cfg2.N) (X : Buf (Elt Ideal) ((c : Thread nD τ).loc main_v71_1)) (j : ((cfg2.win 5).xblock (cfg2.grid.coords t)).Idx) (p : Fin 5376) (q : Fin 6144)
    (hp : p.val = 256 * t.val + (j 0).val) (hq : q.val = (j 1).val) : ((cfg2.win 5).blk t).view.read (Elt Ideal) X j = X (ix2 p q) := by
  rw [View.read_apply]
  show X _ = X _
  congr 1
  funext a
  apply Fin.ext
  match a with
  | ⟨0, _⟩ => show win2_5.index t 0 * 256 + 1 * (j 0).val = p.val; rw [(index2_5 t).1, hp]; omega
  | ⟨1, _⟩ => show win2_5.index t 1 * 6144 + 1 * (j 1).val = q.val; rw [(index2_5 t).2, hq]; omega

/-- and its second the second tensor's codes. -/
theorem array2_5 : (dat2 V c).arrAt 5 cfg2.N = codesY V c := by
  have hN : cfg2.N = 21 := N_2
  refine (dat2 V c).arrAt_eq_of_cover 5 _ (fun t _ => ?_) fun i => ?_
  · have ht : t.val < 21 := lt_of_lt_of_eq t.isLt hN
    rw [flushed2_5]
    funext j
    have hj0 : (j 0).val < 256 := (j 0).isLt
    have hj1 : (j 1).val < 6144 := (j 1).isLt
    rw [cut2_5 t _ j ⟨(j 0).val, hj0⟩ ⟨(j 1).val, hj1⟩ rfl rfl, read2_5 c t _ j ⟨256 * t.val + (j 0).val, by omega⟩ ⟨(j 1).val, hj1⟩ rfl rfl]
    exact outsAt2_dyT V c t _ _ _ rfl
  · have h0 : (i 0 : Nat) < 5376 := (i 0).isLt
    have h1 : (i 1 : Nat) < 6144 := (i 1).isLt
    obtain ⟨t, ht⟩ : ∃ t : Fin cfg2.N, t.val = (i 0 : Nat) / 256 := ⟨⟨(i 0 : Nat) / 256, by rw [hN]; omega⟩, rfl⟩
    refine ⟨t, flush2_5 t, ?_⟩
    show i ∈ ((View.whole main_v71_1).slice (win2_5.rect t)).set
    rw [View.set_slice_whole, Rect.mem_set_unit]
    intro a
    match a with
    | ⟨0, _⟩ => show win2_5.index t 0 * 256 ≤ (i 0 : Nat) ∧ (i 0 : Nat) < win2_5.index t 0 * 256 + 256; rw [(index2_5 t).1]; omega
    | ⟨1, _⟩ => show win2_5.index t 1 * 6144 ≤ (i 1 : Nat) ∧ (i 1 : Nat) < win2_5.index t 1 * 6144 + 6144; rw [(index2_5 t).2]; omega

end Cert.KernelIdeal.Run

end
-- ==== Proof.Spec.lean ====
/- The five results as functions of the two tensors: the scales as powers of two, the transposed codes, the product of
   the codes scaled back. Both programs' results are put on these functions. -/
module

public import proofs.«01_k».proof.Proof.Scale
public import Idealize.ShloMosaic.Lib.Pointwise

@[expose] public section

noncomputable section

namespace Cert.Spec

open Idealize.ShloMosaic

/-- A tensor of 6144 tokens by `d` features, over the extended reals. -/
abbrev Tokens (d : Nat) : Type := (⟨2, ![6144, d]⟩ : Shape).Idx → EReal

/-- The tensor's scale: the power of two of its exponent, `r` the reciprocal of its code format's greatest magnitude. -/
def scaleOf {d : Nat} (r : EReal) (x : Tokens d) : EReal := pow2 (scaleExp (amax x) r)

/-- The scale's inverse. -/
def invOf {d : Nat} (r : EReal) (x : Tokens d) : EReal := pow2 (-scaleExp (amax x) r)

/-- The tensor's transposed codes: every value times the inverse scale, clipped to the format's range. -/
def codes {d : Nat} (lo hi : BitVec 32) (r : EReal) (x : Tokens d) : (⟨2, ![d, 6144]⟩ : Shape).Idx → EReal := fun i =>
  min (Ideal.ofBits .f32 hi) (max (Ideal.ofBits .f32 lo) (x (ix2 (i 1) (i 0)) * invOf r x))

/-- The codes in float8 e4m3. -/
abbrev codesE4 {d : Nat} (x : Tokens d) := codes 0xC3E00000#32 0x43E00000#32 (Ideal.ofBits .f32 0x3B124925#32) x
/-- The codes in float8 e5m2. -/
abbrev codesE5 {d : Nat} (x : Tokens d) := codes 0xC7600000#32 0x47600000#32 (Ideal.ofBits .f32 0x37924925#32) x

/-- The product of the codes over the tokens, scaled back by the product of the two scales. -/
def weightGrad {d e : Nat} (x : Tokens d) (y : Tokens e) : (⟨2, ![d, e]⟩ : Shape).Idx → EReal := fun i =>
  (∑ t : Fin 6144, codesE4 x (ix2 (i 0) t) * codesE5 y (ix2 (i 1) t))
    * (scaleOf (Ideal.ofBits .f32 0x3B124925#32) x * scaleOf (Ideal.ofBits .f32 0x37924925#32) y)

end Cert.Spec

end
-- ==== Proof.KernelValue.lean ====
/- What the kernel's whole program leaves in its five results, over the extended reals: the functions of Spec.lean of the
   two tensors the first host lines made. -/
module

public import proofs.«01_k».proof.Proof.KernelScales
public import proofs.«01_k».proof.Proof.KernelAmax
public import proofs.«01_k».proof.Proof.KernelQuant
public import proofs.«01_k».proof.Proof.Spec

@[expose] public section

set_option maxRecDepth 16384

noncomputable section

namespace Cert.KernelIdeal.Run

open Cert.KernelIdeal Cert.KernelIdeal.Gen Cert.Spec
open Idealize.ShloMosaic Idealize.ShloMosaic.TcCoe Idealize.ShloMosaic.Tactic Idealize.ShloMosaic.StableHlo
open Idealize.ShloMosaic.Pipeline (Dat)

variable (m : (ℓ : Loc nD τ sig) → Buf (Elt Ideal) ℓ) (ρ : Dev nD → PrngReg) (c : Dev nD)

/-- The activations, one row per token. -/
def X : Tokens 1920 := shapeCast S6144x1920 (m ((c : Thread nD τ).loc main_arg0) : S6x1024x1920.Idx → EReal) shapeCasts_S6x1024x1920_S6144x1920
/-- The output gradients, one row per token. -/
def Y : Tokens 5376 := shapeCast S6144x5376 (m ((c : Thread nD τ).loc main_arg1) : S6x1024x5376.Idx → EReal) shapeCasts_S6x1024x5376_S6144x5376

theorem W1_v0 : W1 m ρ c (Proc.devRef .tc main_v0) = X m c := by
  unfold W1 X; after_results; rfl
theorem W1_v1 : W1 m ρ c (Proc.devRef .tc main_v1) = Y m c := by
  unfold W1 Y; after_results; rfl

/-! ## The tensors are kept -/

theorem W11_v0 : W11 m ρ c (Proc.devRef .tc main_v0) = X m c := by
  rw [W11_of m ρ c main_v0 (by decide), W10_of m ρ c main_v0 (by decide), W9_of m ρ c main_v0 (by decide),
    W8_of m ρ c main_v0 (by decide), W7_of m ρ c main_v0 (by decide), W6_of m ρ c main_v0 (by decide), W5_of m ρ c main_v0 (by decide),
    W4_of m ρ c main_v0 (by decide), W3_of m ρ c main_v0 (by decide), W2_of m ρ c main_v0 (by decide +kernel), W1_v0]
theorem W13_v1 : W13 m ρ c (Proc.devRef .tc main_v1) = Y m c := by
  rw [W13_of m ρ c main_v1 (by decide), W12_of m ρ c main_v1 (by decide +kernel),
    W11_of m ρ c main_v1 (by decide), W10_of m ρ c main_v1 (by decide), W9_of m ρ c main_v1 (by decide),
    W8_of m ρ c main_v1 (by decide), W7_of m ρ c main_v1 (by decide), W6_of m ρ c main_v1 (by decide), W5_of m ρ c main_v1 (by decide),
    W4_of m ρ c main_v1 (by decide), W3_of m ρ c main_v1 (by decide), W2_of m ρ c main_v1 (by decide +kernel), W1_v1]

/-! ## The greatest magnitudes -/

theorem aX_eq : aX m ρ c = amax (X m c) := by
  have h : W2 m ρ c (Proc.devRef .tc main_v2_0) = fun _ => amax (X m c) := by
    refine (W2_arr m ρ c 2).trans ((array0_2 (E0 m ρ) c).trans ?_)
    rw [← W1_v0 m ρ c]
  exact congrFun h (ix2 0 0)
theorem aY_eq : aY m ρ c = amax (Y m c) := by
  have h : W2 m ρ c (Proc.devRef .tc main_v2_1) = fun _ => amax (Y m c) := by
    refine (W2_arr m ρ c 3).trans ((array0_3 (E0 m ρ) c).trans ?_)
    rw [← W1_v1 m ρ c]
  exact congrFun h (ix2 0 0)

/-! ## The five results -/

/-- The first tensor's scale. -/
theorem value_v29 : W14 m ρ c (Proc.devRef .tc main_v29) = fun _ => scaleOf rX (X m c) := by
  rw [W14_of m ρ c main_v29 (by decide +kernel), W13_of m ρ c main_v29 (by decide), W12_of m ρ c main_v29 (by decide +kernel), W11_v29]
  funext j
  rw [W7_v29, aX_eq]; rfl

/-- The second tensor's scale. -/
theorem value_v62 : W14 m ρ c (Proc.devRef .tc main_v62) = fun _ => scaleOf rY (Y m c) := by
  rw [W14_of m ρ c main_v62 (by decide +kernel), W13_of m ρ c main_v62 (by decide), W12_of m ρ c main_v62 (by decide +kernel)]
  funext j
  rw [W11_v62, aY_eq]; rfl

theorem W12_v69 : W12 m ρ c (Proc.devRef .tc main_v69) = codesE4 (X m c) := by
  refine (W12_arr m ρ c 2).trans ((array1_2 (E1 m ρ) c).trans ?_)
  funext i
  have h0 : E1 m ρ c main_v0 = X m c := W11_v0 m ρ c
  have h1 : E1 m ρ c main_v35 (ix1 0) = invOf rX (X m c) := by
    show W11 m ρ c (Proc.devRef .tc main_v35) (ix1 0) = _
    rw [W11_v35, W7_v35, aX_eq]; rfl
  unfold codesX
  rw [h0, h1]; rfl

/-- The first tensor's codes. -/
theorem value_v69 : W14 m ρ c (Proc.devRef .tc main_v69) = codesE4 (X m c) := by
  rw [W14_of m ρ c main_v69 (by decide +kernel), W13_of m ρ c main_v69 (by decide), W12_v69]

theorem W13_v68 : E2 m ρ c main_v68 (ix1 0) = invOf rY (Y m c) := by
  show W13 m ρ c (Proc.devRef .tc main_v68) (ix1 0) = _
  rw [W13_of m ρ c main_v68 (by decide), W12_of m ρ c main_v68 (by decide +kernel), W11_v68, aY_eq]; rfl

/-- The second tensor's codes. -/
theorem value_v71_1 : W14 m ρ c (Proc.devRef .tc main_v71_1) = codesE5 (Y m c) := by
  refine (W14_arr m ρ c 5).trans ((array2_5 (E2 m ρ) c).trans ?_)
  funext i
  have h0 : E2 m ρ c main_v1 = Y m c := W13_v1 m ρ c
  unfold codesY
  rw [h0, W13_v68]; rfl

/-- The weight gradient. -/
theorem value_v71_0 : W14 m ρ c (Proc.devRef .tc main_v71_0) = weightGrad (X m c) (Y m c) := by
  refine (W14_arr m ρ c 4).trans ((array2_4 (E2 m ρ) c).trans ?_)
  funext i
  have h0 : E2 m ρ c main_v1 = Y m c := W13_v1 m ρ c
  have h1 : E2 m ρ c main_v69 = codesE4 (X m c) := (W13_of m ρ c main_v69 (by decide)).trans (W12_v69 m ρ c)
  have h2 : E2 m ρ c main_v70 (ix1 0) = scaleOf rX (X m c) * scaleOf rY (Y m c) := by
    show W13 m ρ c (Proc.devRef .tc main_v70) (ix1 0) = _
    rw [W13_v70, aX_eq, aY_eq]; rfl
  unfold product
  rw [h0, h1, h2, W13_v68]; rfl

end Cert.KernelIdeal.Run

end
-- ==== Proof.ReferenceHost.lean ====
/- The reference's host lines over the extended reals, read off their last writers: the two tensors, the scale of each
   and its inverse, as Spec.lean's functions. The lines are taken list by list, as the program is cut at its calls. -/
module

public import proofs.«01_k».proof.Proof.Gen.ReferenceIdeal.Frame
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.ShloMosaic.Tactic Idealize.ShloMosaic.StableHlo

/-! ## What each list of host lines writes -/

/-- The references `hostOps0` writes, in order. -/
abbrev hostOps0_W : List (Ref sig .tc) := [main_v0, main_v1, main_v2, main_v3, main_v4, main_v5, main_cst, main_v6, main_v7, main_cst_0, main_v8, main_v9, main_v10, main_c, main_v11, main_v12, main_v13, main_cst_1, main_v14, main_v15, main_v16, main_v17, main_cst_2]
theorem hostOps0_writes {F : FTy → Type} [FloatOps F] : (hostOps0 : List (HloOp τ sig (Elt F))).Forall fun op => op.writes ⊆ (hostOps0_W.map (Proc.devRef (τ := τ) .tc)).toFinset :=
  StableHlo.forall_writes_sub_of_map rfl
/-- The references `hostOps0_1` writes, in order. -/
abbrev hostOps0_1_W : List (Ref sig .tc) := [main_call0_v0, main_call0_v1, main_v18]
theorem hostOps0_1_writes {F : FTy → Type} [FloatOps F] : (hostOps0_1 : List (HloOp τ sig (Elt F))).Forall fun op => op.writes ⊆ (hostOps0_1_W.map (Proc.devRef (τ := τ) .tc)).toFinset :=
  StableHlo.forall_writes_sub_of_map rfl
/-- The references `hostOps0_2` writes, in order. -/
abbrev hostOps0_2_W : List (Ref sig .tc) := [main_cst_3, main_v19, main_v20, main_cst_4, main_v21, main_v22, main_cst_5]
theorem hostOps0_2_writes {F : FTy → Type} [FloatOps F] : (hostOps0_2 : List (HloOp τ sig (Elt F))).Forall fun op => op.writes ⊆ (hostOps0_2_W.map (Proc.devRef (τ := τ) .tc)).toFinset :=
  StableHlo.forall_writes_sub_of_map rfl
/-- The references `hostOps0_3` writes, in order. -/
abbrev hostOps0_3_W : List (Ref sig .tc) := [main_call1_v0, main_call1_v1, main_v23]
theorem hostOps0_3_writes {F : FTy → Type} [FloatOps F] : (hostOps0_3 : List (HloOp τ sig (Elt F))).Forall fun op => op.writes ⊆ (hostOps0_3_W.map (Proc.devRef (τ := τ) .tc)).toFinset :=
  StableHlo.forall_writes_sub_of_map rfl
/-- The references `hostOps0_4` writes, in order. -/
abbrev hostOps0_4_W : List (Ref sig .tc) := [main_cst_6, main_v24, main_v25, main_v26, main_cst_7, main_v27, main_v28, main_v29, main_v30, main_cst_8, main_v31, main_v32, main_cst_9, main_v33, main_v34, main_v35, main_c_10, main_v36, main_v37, main_v38, main_cst_11, main_v39, main_v40, main_v41, main_v42, main_cst_12]
theorem hostOps0_4_writes {F : FTy → Type} [FloatOps F] : (hostOps0_4 : List (HloOp τ sig (Elt F))).Forall fun op => op.writes ⊆ (hostOps0_4_W.map (Proc.devRef (τ := τ) .tc)).toFinset :=
  StableHlo.forall_writes_sub_of_map rfl
/-- The references `hostOps0_5` writes, in order. -/
abbrev hostOps0_5_W : List (Ref sig .tc) := [main_call2_v0, main_call2_v1, main_v43]
theorem hostOps0_5_writes {F : FTy → Type} [FloatOps F] : (hostOps0_5 : List (HloOp τ sig (Elt F))).Forall fun op => op.writes ⊆ (hostOps0_5_W.map (Proc.devRef (τ := τ) .tc)).toFinset :=
  StableHlo.forall_writes_sub_of_map rfl
/-- The references `hostOps0_6` writes, in order. -/
abbrev hostOps0_6_W : List (Ref sig .tc) := [main_cst_13, main_v44, main_v45, main_cst_14, main_v46, main_v47, main_cst_15]
theorem hostOps0_6_writes {F : FTy → Type} [FloatOps F] : (hostOps0_6 : List (HloOp τ sig (Elt F))).Forall fun op => op.writes ⊆ (hostOps0_6_W.map (Proc.devRef (τ := τ) .tc)).toFinset :=
  StableHlo.forall_writes_sub_of_map rfl
/-- The references `hostOps0_7` writes, in order. -/
abbrev hostOps0_7_W : List (Ref sig .tc) := [main_call3_v0, main_call3_v1, main_v48]
theorem hostOps0_7_writes {F : FTy → Type} [FloatOps F] : (hostOps0_7 : List (HloOp τ sig (Elt F))).Forall fun op => op.writes ⊆ (hostOps0_7_W.map (Proc.devRef (τ := τ) .tc)).toFinset :=
  StableHlo.forall_writes_sub_of_map rfl
/-- The references `hostOps0_8` writes, in order. -/
abbrev hostOps0_8_W : List (Ref sig .tc) := [main_cst_16, main_v49, main_v50, main_v51, main_cst_17, main_v52, main_v53, main_v54, main_v55, main_v56, main_v57]
theorem hostOps0_8_writes {F : FTy → Type} [FloatOps F] : (hostOps0_8 : List (HloOp τ sig (Elt F))).Forall fun op => op.writes ⊆ (hostOps0_8_W.map (Proc.devRef (τ := τ) .tc)).toFinset :=
  StableHlo.forall_writes_sub_of_map rfl

/-! ## The contents after each list -/

section Chain

variable {F : FTy → Type} [FloatOps F] (m : (ℓ : Loc nD τ sig) → Buf (Elt F) ℓ) (c : Dev nD)

/-- Core `c`'s buffers at launch. -/
abbrev U0 : Valuation τ sig (Elt F) := fun b => m (c, b)
/-- After `hostOps0`. -/
def U1 : Valuation τ sig (Elt F) := after hostOps0 (U0 m c)
/-- A buffer the list does not write is as before it. -/
theorem U1_of (r : Ref sig .tc) (h : r ∉ hostOps0_W) : U1 m c (Proc.devRef .tc r) = U0 m c (Proc.devRef .tc r) :=
  after_of_writes_sub hostOps0 _ hostOps0_writes h
/-- After `hostOps0_1`. -/
def U2 : Valuation τ sig (Elt F) := after hostOps0_1 (U1 m c)
/-- A buffer the list does not write is as before it. -/
theorem U2_of (r : Ref sig .tc) (h : r ∉ hostOps0_1_W) : U2 m c (Proc.devRef .tc r) = U1 m c (Proc.devRef .tc r) :=
  after_of_writes_sub hostOps0_1 _ hostOps0_1_writes h
/-- After `hostOps0_2`. -/
def U3 : Valuation τ sig (Elt F) := after hostOps0_2 (U2 m c)
/-- A buffer the list does not write is as before it. -/
theorem U3_of (r : Ref sig .tc) (h : r ∉ hostOps0_2_W) : U3 m c (Proc.devRef .tc r) = U2 m c (Proc.devRef .tc r) :=
  after_of_writes_sub hostOps0_2 _ hostOps0_2_writes h
/-- After `hostOps0_3`. -/
def U4 : Valuation τ sig (Elt F) := after hostOps0_3 (U3 m c)
/-- A buffer the list does not write is as before it. -/
theorem U4_of (r : Ref sig .tc) (h : r ∉ hostOps0_3_W) : U4 m c (Proc.devRef .tc r) = U3 m c (Proc.devRef .tc r) :=
  after_of_writes_sub hostOps0_3 _ hostOps0_3_writes h
/-- After `hostOps0_4`. -/
def U5 : Valuation τ sig (Elt F) := after hostOps0_4 (U4 m c)
/-- A buffer the list does not write is as before it. -/
theorem U5_of (r : Ref sig .tc) (h : r ∉ hostOps0_4_W) : U5 m c (Proc.devRef .tc r) = U4 m c (Proc.devRef .tc r) :=
  after_of_writes_sub hostOps0_4 _ hostOps0_4_writes h
/-- After `hostOps0_5`. -/
def U6 : Valuation τ sig (Elt F) := after hostOps0_5 (U5 m c)
/-- A buffer the list does not write is as before it. -/
theorem U6_of (r : Ref sig .tc) (h : r ∉ hostOps0_5_W) : U6 m c (Proc.devRef .tc r) = U5 m c (Proc.devRef .tc r) :=
  after_of_writes_sub hostOps0_5 _ hostOps0_5_writes h
/-- After `hostOps0_6`. -/
def U7 : Valuation τ sig (Elt F) := after hostOps0_6 (U6 m c)
/-- A buffer the list does not write is as before it. -/
theorem U7_of (r : Ref sig .tc) (h : r ∉ hostOps0_6_W) : U7 m c (Proc.devRef .tc r) = U6 m c (Proc.devRef .tc r) :=
  after_of_writes_sub hostOps0_6 _ hostOps0_6_writes h
/-- After `hostOps0_7`. -/
def U8 : Valuation τ sig (Elt F) := after hostOps0_7 (U7 m c)
/-- A buffer the list does not write is as before it. -/
theorem U8_of (r : Ref sig .tc) (h : r ∉ hostOps0_7_W) : U8 m c (Proc.devRef .tc r) = U7 m c (Proc.devRef .tc r) :=
  after_of_writes_sub hostOps0_7 _ hostOps0_7_writes h
/-- After `hostOps0_8`. -/
def U9 : Valuation τ sig (Elt F) := after hostOps0_8 (U8 m c)
/-- A buffer the list does not write is as before it. -/
theorem U9_of (r : Ref sig .tc) (h : r ∉ hostOps0_8_W) : U9 m c (Proc.devRef .tc r) = U8 m c (Proc.devRef .tc r) :=
  after_of_writes_sub hostOps0_8 _ hostOps0_8_writes h
/-- The contents the reference's one pallas_call is entered with are those after the last list. -/
theorem V_eq (b : Ref sig .tc) : V m c b = U9 m c (Proc.devRef .tc b) := by
  unfold V U9 U8 U7 U6 U5 U4 U3 U2 U1 U0
  simp only [List.flatten_cons, List.flatten_nil, List.append_nil, after_append]

end Chain

/-! ## The constants and the words -/

theorem ninf : Ideal.ofBits .f32 0xFF800000#32 = (⊥ : EReal) := by simp [Ideal.ofBits, Ideal.ieee]
theorem pinf : Ideal.ofBits .f32 0x7F800000#32 = (⊤ : EReal) := by simp [Ideal.ofBits, Ideal.ieee]
theorem two : Ideal.ofBits .f32 0x40000000#32 = ((2 : ℝ) : EReal) := by
  simp [Ideal.ofBits, Ideal.ieee]
  rw [← EReal.coe_mul]; norm_num
theorem limit : Ideal.ofBits .f32 0x42FC0000#32 = ((126 : ℝ) : EReal) := by
  simp [Ideal.ofBits, Ideal.ieee]
  rw [← EReal.coe_mul]; norm_num

/-- The exponent of power `k` on the host: `k − 126`, converted. -/
theorem power_exponent (k : Fin 252) :
    FloatOps.sitofp (F := Ideal) .f32 (IntOp.addi 4294967170#32 (BitVec.ofNat 32 k.val)) = ((((k : ℤ) - 126 : ℤ) : ℝ) : EReal) := by
  have hk : (IntOp.addi 4294967170#32 (BitVec.ofNat 32 k.val)).toInt = (k : ℤ) - 126 := by
    revert k; decide
  rw [← hk]; rfl

/-- The greatest magnitude by the reference's reduction of the transposed tensor over both axes. -/
theorem fold_amax {d : Nat} (x : Tokens d) :
    (Finset.univ : Finset (Fin d × Fin 6144)).fold max (Ideal.ofBits .f32 0xFF800000#32) (fun p => max (x (ix2 p.2 p.1)) (-x (ix2 p.2 p.1))) = amax x := by
  rw [ninf]
  refine le_antisymm ((Finset.fold_max_le _).mpr ⟨bot_le, fun p _ => (amax_le_iff x _).mp le_rfl _⟩) ((amax_le_iff x _).mpr fun i => ?_)
  refine (Finset.le_fold_max _).mpr (.inr ⟨(i 1, i 0), Finset.mem_univ _, ?_⟩)
  have h : (ix2 (i 0) (i 1) : (⟨2, ![6144, d]⟩ : Shape).Idx) = i := by
    funext a; match a with | ⟨0, _⟩ => rfl | ⟨1, _⟩ => rfl
  exact le_of_eq (congrArg (fun j => max (x j) (-x j)) h.symm)

/-- The exponent, replaced by zero where the magnitude is zero, is the scale's exponent. -/
theorem select_exponent (a r : EReal) :
    Scalar.select (Ideal.cmp .oeq a 0) (0 : EReal) ((((expo (a * r) : ℤ) : ℝ)) : EReal) = ((((scaleExp a r : ℤ) : ℝ)) : EReal) := by
  unfold Scalar.select Ideal.cmp scaleExp
  by_cases h : a = 0 <;> simp [h]

/-! ## The lines at an index -/

/-- The activations, one row per token. -/
def X (a : S6x1024x1920.Idx → EReal) : Tokens 1920 := shapeCast S6144x1920 a shapeCasts_S6x1024x1920_S6144x1920
/-- The output gradients, one row per token. -/
def Y (a : S6x1024x5376.Idx → EReal) : Tokens 5376 := shapeCast S6144x5376 a shapeCasts_S6x1024x5376_S6144x5376

theorem X_at (a : S6x1024x1920.Idx → EReal) (t : Fin 6144) (f : Fin 1920) :
    X a (ix2 t f) = a (ix3 ⟨t.val / 1024, by omega⟩ ⟨t.val % 1024, by omega⟩ f) := by
  unfold X; pointwise
theorem Y_at (a : S6x1024x5376.Idx → EReal) (t : Fin 6144) (f : Fin 5376) :
    Y a (ix2 t f) = a (ix3 ⟨t.val / 1024, by omega⟩ ⟨t.val % 1024, by omega⟩ f) := by
  unfold Y; pointwise

section Lines

variable (V0 : Valuation τ sig (Elt Ideal))

/-! The two transposed tensors. -/

theorem lineXT (j : S1920x6144.Idx) : after hostOps0 V0 (Proc.devRef .tc main_v1) j = X (V0 (Proc.devRef .tc main_arg0)) (ix2 (j 1) (j 0)) := by
  refine Eq.trans ?_ (X_at _ (j 1) (j 0)).symm
  after_reads_at
theorem lineYT (j : S5376x6144.Idx) : after hostOps0 V0 (Proc.devRef .tc main_v3) j = Y (V0 (Proc.devRef .tc main_arg1)) (ix2 (j 1) (j 0)) := by
  refine Eq.trans ?_ (Y_at _ (j 1) (j 0)).symm
  after_reads_at

/-! The first tensor's scale. -/

theorem amaxX (j : S1.Idx) : after hostOps0 V0 (Proc.devRef .tc main_v7) j = amax (X (V0 (Proc.devRef .tc main_arg0))) := by
  rw [← fold_amax]
  simp only [X_at]
  after_reads_at
  rfl
theorem cmpX (j : S252.Idx) : after hostOps0 V0 (Proc.devRef .tc main_v17) j
    = Ideal.cmp .olt (HMul.hMul (α := EReal) (β := EReal) (after hostOps0 V0 (Proc.devRef .tc main_v7) (ix1 0)) (Ideal.ofBits .f32 0x3B124925#32)) (pow2 (((j 0).val : ℤ) - 126)) := by
  rw [← pow_two, ← power_exponent (j 0), ← two]
  after_reads_at
  try rfl
theorem exponentX (j : S252.Idx) : after hostOps0 V0 (Proc.devRef .tc main_v13) j = (((((j 0).val : ℤ) - 126 : ℤ) : ℝ) : EReal) := by
  rw [← power_exponent (j 0)]
  after_reads_at
theorem limitX (j : S_.Idx) : after hostOps0 V0 (Proc.devRef .tc main_cst_2) j = ((126 : ℝ) : EReal) := by
  rw [← limit]
  after_reads_at
theorem whereX (j : S252.Idx) : after hostOps0_1 V0 (Proc.devRef .tc main_v18) j
    = Scalar.select (V0 (Proc.devRef .tc main_v17) j) (V0 (Proc.devRef .tc main_v13) j) (V0 (Proc.devRef .tc main_cst_2) ix0) := by
  after_reads_at
  rfl
theorem minX (j : S1.Idx) : after hostOps0_2 V0 (Proc.devRef .tc main_v20) j
    = Finset.fold (min : EReal → EReal → EReal) ⊤ (fun k : Fin 252 => V0 (Proc.devRef .tc main_v18) (ix1 k)) Finset.univ := by
  rw [← pinf]
  after_reads_at
theorem zeroX (j : S1.Idx) : after hostOps0_2 V0 (Proc.devRef .tc main_v22) j = Ideal.cmp .oeq (V0 (Proc.devRef .tc main_v7) j) 0 := by
  rw [← Ideal.ofBits_zero_f32]
  after_reads_at
theorem noneX (j : S_.Idx) : after hostOps0_2 V0 (Proc.devRef .tc main_cst_5) j = (0 : EReal) := by
  rw [← Ideal.ofBits_zero_f32]
  after_reads_at
theorem expX (j : S1.Idx) : after hostOps0_3 V0 (Proc.devRef .tc main_v23) j
    = Scalar.select (V0 (Proc.devRef .tc main_v22) j) (V0 (Proc.devRef .tc main_cst_5) ix0) (V0 (Proc.devRef .tc main_v20) j) := by
  after_reads_at
  rfl
theorem scaleX (j : S1.Idx) : after hostOps0_4 V0 (Proc.devRef .tc main_v25) j = Ideal.pow ((2 : ℝ) : EReal) (V0 (Proc.devRef .tc main_v23) j) := by
  rw [← two]
  after_reads_at
theorem invX (j : S1.Idx) : after hostOps0_4 V0 (Proc.devRef .tc main_v28) j
    = Ideal.pow ((2 : ℝ) : EReal) (Neg.neg (α := EReal) (V0 (Proc.devRef .tc main_v23) j)) := by
  rw [← two]
  after_reads_at

/-! The second tensor's scale. -/

theorem amaxY (y : Tokens 5376) (hy : ∀ j, V0 (Proc.devRef .tc main_v3) j = y (ix2 (j 1) (j 0))) (j : S1.Idx) : after hostOps0_4 V0 (Proc.devRef .tc main_v32) j = amax y := by
  rw [← fold_amax]
  after_reads_at
  simp only [hy]
  rfl
theorem cmpY (j : S252.Idx) : after hostOps0_4 V0 (Proc.devRef .tc main_v42) j
    = Ideal.cmp .olt (HMul.hMul (α := EReal) (β := EReal) (after hostOps0_4 V0 (Proc.devRef .tc main_v32) (ix1 0)) (Ideal.ofBits .f32 0x37924925#32)) (pow2 (((j 0).val : ℤ) - 126)) := by
  rw [← pow_two, ← power_exponent (j 0), ← two]
  after_reads_at
  try rfl
theorem exponentY (j : S252.Idx) : after hostOps0_4 V0 (Proc.devRef .tc main_v38) j = (((((j 0).val : ℤ) - 126 : ℤ) : ℝ) : EReal) := by
  rw [← power_exponent (j 0)]
  after_reads_at
theorem limitY (j : S_.Idx) : after hostOps0_4 V0 (Proc.devRef .tc main_cst_12) j = ((126 : ℝ) : EReal) := by
  rw [← limit]
  after_reads_at
theorem whereY (j : S252.Idx) : after hostOps0_5 V0 (Proc.devRef .tc main_v43) j
    = Scalar.select (V0 (Proc.devRef .tc main_v42) j) (V0 (Proc.devRef .tc main_v38) j) (V0 (Proc.devRef .tc main_cst_12) ix0) := by
  after_reads_at
  rfl
theorem minY (j : S1.Idx) : after hostOps0_6 V0 (Proc.devRef .tc main_v45) j
    = Finset.fold (min : EReal → EReal → EReal) ⊤ (fun k : Fin 252 => V0 (Proc.devRef .tc main_v43) (ix1 k)) Finset.univ := by
  rw [← pinf]
  after_reads_at
theorem zeroY (j : S1.Idx) : after hostOps0_6 V0 (Proc.devRef .tc main_v47) j = Ideal.cmp .oeq (V0 (Proc.devRef .tc main_v32) j) 0 := by
  rw [← Ideal.ofBits_zero_f32]
  after_reads_at
theorem noneY (j : S_.Idx) : after hostOps0_6 V0 (Proc.devRef .tc main_cst_15) j = (0 : EReal) := by
  rw [← Ideal.ofBits_zero_f32]
  after_reads_at
theorem expY (j : S1.Idx) : after hostOps0_7 V0 (Proc.devRef .tc main_v48) j
    = Scalar.select (V0 (Proc.devRef .tc main_v47) j) (V0 (Proc.devRef .tc main_cst_15) ix0) (V0 (Proc.devRef .tc main_v45) j) := by
  after_reads_at
  rfl
theorem scaleY (j : S1.Idx) : after hostOps0_8 V0 (Proc.devRef .tc main_v50) j = Ideal.pow ((2 : ℝ) : EReal) (V0 (Proc.devRef .tc main_v48) j) := by
  rw [← two]
  after_reads_at
theorem invY (j : S1.Idx) : after hostOps0_8 V0 (Proc.devRef .tc main_v53) j
    = Ideal.pow ((2 : ℝ) : EReal) (Neg.neg (α := EReal) (V0 (Proc.devRef .tc main_v48) j)) := by
  rw [← two]
  after_reads_at

/-! The four scalars handed to the pallas_call. -/

theorem handXS (j : S1x1.Idx) : after hostOps0_8 V0 (Proc.devRef .tc main_v54) j = V0 (Proc.devRef .tc main_v25) (ix1 0) := by
  after_reads_at
theorem handXI (j : S1x1.Idx) : after hostOps0_8 V0 (Proc.devRef .tc main_v55) j = V0 (Proc.devRef .tc main_v28) (ix1 0) := by
  after_reads_at
theorem handYS (j : S1x1.Idx) : after hostOps0_8 V0 (Proc.devRef .tc main_v56) j = after hostOps0_8 V0 (Proc.devRef .tc main_v50) (ix1 0) := by
  after_reads_at
theorem handYI (j : S1x1.Idx) : after hostOps0_8 V0 (Proc.devRef .tc main_v57) j = after hostOps0_8 V0 (Proc.devRef .tc main_v53) (ix1 0) := by
  after_reads_at

end Lines

/-! ## Through the lists -/

variable (m : (ℓ : Loc nD τ sig) → Buf (Elt Ideal) ℓ) (c : Dev nD)

/-- The activations at launch, one row per token, -/
abbrev aX : Tokens 1920 := X (m ((c : Thread nD τ).loc main_arg0))
/-- and the output gradients. -/
abbrev aY : Tokens 5376 := Y (m ((c : Thread nD τ).loc main_arg1))
/-- The reciprocals of the two formats' greatest magnitudes. -/
abbrev rX : EReal := Ideal.ofBits .f32 0x3B124925#32
abbrev rY : EReal := Ideal.ofBits .f32 0x37924925#32

/-- The transposed tensors the pallas_call is handed. -/
theorem V_v1 (j : S1920x6144.Idx) : V m c main_v1 j = aX m c (ix2 (j 1) (j 0)) := by
  rw [V_eq, U9_of m c main_v1 (by decide), U8_of m c main_v1 (by decide), U7_of m c main_v1 (by decide), U6_of m c main_v1 (by decide),
    U5_of m c main_v1 (by decide), U4_of m c main_v1 (by decide), U3_of m c main_v1 (by decide), U2_of m c main_v1 (by decide)]
  unfold U1; exact lineXT _ j
theorem U4_v3 (j : S5376x6144.Idx) : U4 m c (Proc.devRef .tc main_v3) j = aY m c (ix2 (j 1) (j 0)) := by
  rw [U4_of m c main_v3 (by decide), U3_of m c main_v3 (by decide), U2_of m c main_v3 (by decide)]
  unfold U1; exact lineYT _ j
theorem V_v3 (j : S5376x6144.Idx) : V m c main_v3 j = aY m c (ix2 (j 1) (j 0)) := by
  rw [V_eq, U9_of m c main_v3 (by decide), U8_of m c main_v3 (by decide), U7_of m c main_v3 (by decide), U6_of m c main_v3 (by decide),
    U5_of m c main_v3 (by decide), U4_v3]

theorem U1_v7 (j : S1.Idx) : U1 m c (Proc.devRef .tc main_v7) j = amax (aX m c) := by
  unfold U1; exact amaxX _ j
theorem U5_v32 (j : S1.Idx) : U5 m c (Proc.devRef .tc main_v32) j = amax (aY m c) := by
  unfold U5; exact amaxY _ _ (U4_v3 m c) j

/-- The first tensor's exponent. -/
theorem U4_v23 (j : S1.Idx) : U4 m c (Proc.devRef .tc main_v23) j = (((scaleExp (amax (aX m c)) rX : ℤ) : ℝ) : EReal) := by
  have h18 : ∀ k : Fin 252, U2 m c (Proc.devRef .tc main_v18) (ix1 k) = candidateR (amax (aX m c) * rX) k := fun k => by
    unfold U2; rw [whereX]; unfold U1; rw [cmpX, exponentX, limitX, amaxX]; rfl
  unfold U4; rw [expX]; unfold U3; rw [minX, zeroX, noneX, U2_of m c main_v7 (by decide), U1_v7]
  simp only [h18]
  rw [fold_candidateR (fun x => x) Function.surjective_id]
  exact select_exponent _ _

/-- The second tensor's exponent. -/
theorem U8_v48 (j : S1.Idx) : U8 m c (Proc.devRef .tc main_v48) j = (((scaleExp (amax (aY m c)) rY : ℤ) : ℝ) : EReal) := by
  have h43 : ∀ k : Fin 252, U6 m c (Proc.devRef .tc main_v43) (ix1 k) = candidateR (amax (aY m c) * rY) k := fun k => by
    unfold U6; rw [whereY]; unfold U5; rw [cmpY, exponentY, limitY, amaxY _ _ (U4_v3 m c)]; rfl
  unfold U8; rw [expY]; unfold U7; rw [minY, zeroY, noneY, U6_of m c main_v32 (by decide), U5_v32]
  simp only [h43]
  rw [fold_candidateR (fun x => x) Function.surjective_id]
  exact select_exponent _ _

theorem U5_v25 (j : S1.Idx) : U5 m c (Proc.devRef .tc main_v25) j = scaleOf rX (aX m c) := by
  unfold U5; rw [scaleX, U4_v23]; exact pow_two _
theorem U5_v28 (j : S1.Idx) : U5 m c (Proc.devRef .tc main_v28) j = invOf rX (aX m c) := by
  unfold U5; rw [invX, U4_v23, ← EReal.coe_neg, ← Int.cast_neg]; exact pow_two _
theorem U9_v50 (j : S1.Idx) : U9 m c (Proc.devRef .tc main_v50) j = scaleOf rY (aY m c) := by
  unfold U9; rw [scaleY, U8_v48]; exact pow_two _
theorem U9_v53 (j : S1.Idx) : U9 m c (Proc.devRef .tc main_v53) j = invOf rY (aY m c) := by
  unfold U9; rw [invY, U8_v48, ← EReal.coe_neg, ← Int.cast_neg]; exact pow_two _

/-- The scales, as the program returns them. -/
theorem V_v25 (j : S1.Idx) : V m c main_v25 j = scaleOf rX (aX m c) := by
  rw [V_eq, U9_of m c main_v25 (by decide), U8_of m c main_v25 (by decide), U7_of m c main_v25 (by decide), U6_of m c main_v25 (by decide), U5_v25]
theorem V_v50 (j : S1.Idx) : V m c main_v50 j = scaleOf rY (aY m c) := by
  rw [V_eq, U9_v50]

/-- The scales and their inverses, as the pallas_call is handed them. -/
theorem V_v54 (j : S1x1.Idx) : V m c main_v54 j = scaleOf rX (aX m c) := by
  rw [V_eq]; unfold U9
  rw [handXS, U8_of m c main_v25 (by decide), U7_of m c main_v25 (by decide), U6_of m c main_v25 (by decide), U5_v25]
theorem V_v55 (j : S1x1.Idx) : V m c main_v55 j = invOf rX (aX m c) := by
  rw [V_eq]; unfold U9
  rw [handXI, U8_of m c main_v28 (by decide), U7_of m c main_v28 (by decide), U6_of m c main_v28 (by decide), U5_v28]
theorem V_v56 (j : S1x1.Idx) : V m c main_v56 j = scaleOf rY (aY m c) := by
  rw [V_eq]; unfold U9; rw [handYS]; exact U9_v50 m c _
theorem V_v57 (j : S1x1.Idx) : V m c main_v57 j = invOf rY (aY m c) := by
  rw [V_eq]; unfold U9; rw [handYI]; exact U9_v53 m c _

end Cert.ReferenceIdeal.Run

end
-- ==== Proof.ReferenceCall.lean ====
/- The reference's one pallas_call over the extended reals: what its body leaves, and what its three result arrays hold.
   The call has no grid, so every block is its whole array. -/
module

public import proofs.«01_k».proof.Proof.ReferenceHost
public import Idealize.ShloMosaic.Lib.Pipeline.Value

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.ShloMosaic.Tactic
open Idealize.ShloMosaic.Pipeline (Dat)

theorem zero_offsets : (![0, 0] : Fin 2 → Nat) = fun _ => 0 := funext fun a => by fin_cases a <;> rfl

/-! ## What the body leaves, as its payloads of the blocks -/

section Cases

variable {F : FTy → Type} [FloatOps F] (c : Dev nD) (a0 : Memref sig .tc .vmem S1920x6144 .bf16) (h0 : a0.IsWhole) (a1 : Memref sig .tc .vmem S5376x6144 .bf16) (h1 : a1.IsWhole)
  (a2 : Memref sig .tc .vmem S1x1 .f32) (h2 : a2.IsWhole) (a3 : Memref sig .tc .vmem S1x1 .f32) (h3 : a3.IsWhole) (a4 : Memref sig .tc .vmem S1x1 .f32) (h4 : a4.IsWhole)
  (a5 : Memref sig .tc .vmem S1x1 .f32) (h5 : a5.IsWhole) (a6 : Memref sig .tc .vmem S1920x5376 .f32) (h6 : a6.IsWhole) (a7 : Memref sig .tc .vmem S1920x6144 .fp8e4m3) (h7 : a7.IsWhole)
  (a8 : Memref sig .tc .vmem S5376x6144 .fp8e5m2) (h8 : a8.IsWhole)
  (x0 : Vec F S1920x6144 .bf16) (x1 : Vec F S5376x6144 .bf16) (x2 x3 x4 x5 : Vec F S1x1 .f32)

/-- The first tensor's codes. -/
theorem out_codesX : out0_A_7 c a0 h0 a1 h1 a2 h2 a3 h3 a4 h4 a5 h5 a6 h6 a7 h7 a8 h8 x0 x1 x2 x3 x4 x5 = k0_pay2 x0 x3 := by
  unfold out0_A_7
  rw [View.read_writes_eq_canon _ _ _ (cover0_A_7 c a0 h0 a1 h1 a2 h2 a3 h3 a4 h4 a5 h5 a6 h6 a7 h7 a8 h8 x0 x1 x2 x3 x4 x5)]
  unfold kernelRun0_A
  dsimp only
  sl_unfold_words
  rw [View.canon_unit_zero (S := S1920x6144) zero_offsets]
  simp only [View.readAt_eq_ld, h0.read_unread, h3.read_unread, View.ld_unit_zero (S := S1920x6144) zero_offsets, View.ld_unit_zero (S := S1x1) zero_offsets]

/-- The second tensor's codes. -/
theorem out_codesY : out0_A_8 c a0 h0 a1 h1 a2 h2 a3 h3 a4 h4 a5 h5 a6 h6 a7 h7 a8 h8 x0 x1 x2 x3 x4 x5 = k0_pay3 x1 x5 := by
  unfold out0_A_8
  rw [View.read_writes_eq_canon _ _ _ (cover0_A_8 c a0 h0 a1 h1 a2 h2 a3 h3 a4 h4 a5 h5 a6 h6 a7 h7 a8 h8 x0 x1 x2 x3 x4 x5)]
  unfold kernelRun0_A
  dsimp only
  sl_unfold_words
  rw [View.canon_unit_zero (S := S5376x6144) zero_offsets]
  simp only [View.readAt_eq_ld, h1.read_unread, h5.read_unread, View.ld_unit_zero (S := S5376x6144) zero_offsets, View.ld_unit_zero (S := S1x1) zero_offsets]

/-- The product of the codes as they were stored, scaled back. -/
theorem out_product : out0_A_6 c a0 h0 a1 h1 a2 h2 a3 h3 a4 h4 a5 h5 a6 h6 a7 h7 a8 h8 x0 x1 x2 x3 x4 x5 = k0_pay1 (k0_pay4 (k0_pay2 x0 x3) (k0_pay3 x1 x5)) (k0_pay5 x2) x4 := by
  unfold out0_A_6
  rw [View.read_writes_eq_canon _ _ _ (cover0_A_6 c a0 h0 a1 h1 a2 h2 a3 h3 a4 h4 a5 h5 a6 h6 a7 h7 a8 h8 x0 x1 x2 x3 x4 x5)]
  unfold kernelRun0_A
  dsimp only
  sl_unfold_words
  rw [View.canon_unit_zero (S := S1920x5376) zero_offsets, View.readCov_unit_zero (S := S1920x6144) _ zero_offsets, View.readCov_unit_zero (S := S5376x6144) _ zero_offsets]
  simp only [View.readAt_eq_ld, h0.read_unread, h1.read_unread, h2.read_unread, h3.read_unread, h4.read_unread, h5.read_unread,
    View.ld_unit_zero (S := S1920x6144) zero_offsets, View.ld_unit_zero (S := S5376x6144) zero_offsets, View.ld_unit_zero (S := S1x1) zero_offsets]

end Cases

/-! ## The payloads at an index -/

theorem pay2_apply (x : Vec Ideal S1920x6144 .bf16) (s : Vec Ideal S1x1 .f32) (f : Fin 1920) (t : Fin 6144) :
    k0_pay2 x s (ix2 f t) = min (Ideal.ofBits .f32 0x43E00000#32) (max (Ideal.ofBits .f32 0xC3E00000#32) (HMul.hMul (α := EReal) (β := EReal) (x (ix2 f t)) (s (ix2 0 0)))) := by
  unfold k0_pay2
  pointwise
theorem pay3_apply (y : Vec Ideal S5376x6144 .bf16) (s : Vec Ideal S1x1 .f32) (o : Fin 5376) (t : Fin 6144) :
    k0_pay3 y s (ix2 o t) = min (Ideal.ofBits .f32 0x47600000#32) (max (Ideal.ofBits .f32 0xC7600000#32) (HMul.hMul (α := EReal) (β := EReal) (y (ix2 o t)) (s (ix2 0 0)))) := by
  unfold k0_pay3
  pointwise
theorem pay1_apply (u : Vec Ideal S1920x6144 .fp8e4m3) (v : Vec Ideal S5376x6144 .fp8e5m2) (s r : Vec Ideal S1x1 .f32) (f : Fin 1920) (o : Fin 5376) :
    k0_pay1 (k0_pay4 u v) (k0_pay5 s) r (ix2 f o)
      = HMul.hMul (α := EReal) (β := EReal) (∑ t : Fin 6144, HMul.hMul (α := EReal) (β := EReal) (u (ix2 f t)) (v (ix2 o t)))
        (HMul.hMul (α := EReal) (β := EReal) (s (ix2 0 0)) (r (ix2 0 0))) := by
  unfold k0_pay1 k0_pay4 k0_pay5
  pointwise

/-! ## The blocks are the arrays -/

variable (m : (ℓ : Loc nD τ sig) → Buf (Elt Ideal) ℓ) (c : Dev nD)

theorem index0 : ∀ t : Fin cfg0.N, win0_0.index t 0 = 0 ∧ win0_0.index t 1 = 0 := fun t => ⟨rfl, rfl⟩
theorem index1 : ∀ t : Fin cfg0.N, win0_1.index t 0 = 0 ∧ win0_1.index t 1 = 0 := fun t => ⟨rfl, rfl⟩
theorem index6 : ∀ t : Fin cfg0.N, win0_6.index t 0 = 0 ∧ win0_6.index t 1 = 0 := fun t => ⟨rfl, rfl⟩
theorem index7 : ∀ t : Fin cfg0.N, win0_7.index t 0 = 0 ∧ win0_7.index t 1 = 0 := fun t => ⟨rfl, rfl⟩
theorem index8 : ∀ t : Fin cfg0.N, win0_8.index t 0 = 0 ∧ win0_8.index t 1 = 0 := fun t => ⟨rfl, rfl⟩

theorem whole0 (t : Fin cfg0.N) (A : Buf (Elt Ideal) ((c : Thread nD τ).loc main_v1)) (p : Fin 1920) (q : Fin 6144) :
    ((cfg0.win 0).blk t).view.read (Elt Ideal) A (ix2 p q) = A (ix2 p q) := by
  rw [View.read_apply]
  show A _ = A _
  congr 1
  funext a
  apply Fin.ext
  match a with
  | ⟨0, _⟩ => show win0_0.index t 0 * 1920 + 1 * p.val = p.val; rw [(index0 t).1]; omega
  | ⟨1, _⟩ => show win0_0.index t 1 * 6144 + 1 * q.val = q.val; rw [(index0 t).2]; omega
theorem whole1 (t : Fin cfg0.N) (A : Buf (Elt Ideal) ((c : Thread nD τ).loc main_v3)) (p : Fin 5376) (q : Fin 6144) :
    ((cfg0.win 1).blk t).view.read (Elt Ideal) A (ix2 p q) = A (ix2 p q) := by
  rw [View.read_apply]
  show A _ = A _
  congr 1
  funext a
  apply Fin.ext
  match a with
  | ⟨0, _⟩ => show win0_1.index t 0 * 5376 + 1 * p.val = p.val; rw [(index1 t).1]; omega
  | ⟨1, _⟩ => show win0_1.index t 1 * 6144 + 1 * q.val = q.val; rw [(index1 t).2]; omega
theorem whole2 (t : Fin cfg0.N) (A : Buf (Elt Ideal) ((c : Thread nD τ).loc main_v54)) (p : Fin 1) (q : Fin 1) :
    ((cfg0.win 2).blk t).view.read (Elt Ideal) A (ix2 p q) = A (ix2 p q) := by
  rw [View.read_apply]
  show A _ = A _
  congr 1
  funext a
  have e : ∀ u v : Fin 1, u = v := fun u v => Subsingleton.elim u v
  match a with
  | ⟨0, _⟩ => exact e _ _
  | ⟨1, _⟩ => exact e _ _
theorem whole3 (t : Fin cfg0.N) (A : Buf (Elt Ideal) ((c : Thread nD τ).loc main_v55)) (p : Fin 1) (q : Fin 1) :
    ((cfg0.win 3).blk t).view.read (Elt Ideal) A (ix2 p q) = A (ix2 p q) := by
  rw [View.read_apply]
  show A _ = A _
  congr 1
  funext a
  have e : ∀ u v : Fin 1, u = v := fun u v => Subsingleton.elim u v
  match a with
  | ⟨0, _⟩ => exact e _ _
  | ⟨1, _⟩ => exact e _ _
theorem whole4 (t : Fin cfg0.N) (A : Buf (Elt Ideal) ((c : Thread nD τ).loc main_v56)) (p : Fin 1) (q : Fin 1) :
    ((cfg0.win 4).blk t).view.read (Elt Ideal) A (ix2 p q) = A (ix2 p q) := by
  rw [View.read_apply]
  show A _ = A _
  congr 1
  funext a
  have e : ∀ u v : Fin 1, u = v := fun u v => Subsingleton.elim u v
  match a with
  | ⟨0, _⟩ => exact e _ _
  | ⟨1, _⟩ => exact e _ _
theorem whole5 (t : Fin cfg0.N) (A : Buf (Elt Ideal) ((c : Thread nD τ).loc main_v57)) (p : Fin 1) (q : Fin 1) :
    ((cfg0.win 5).blk t).view.read (Elt Ideal) A (ix2 p q) = A (ix2 p q) := by
  rw [View.read_apply]
  show A _ = A _
  congr 1
  funext a
  have e : ∀ u v : Fin 1, u = v := fun u v => Subsingleton.elim u v
  match a with
  | ⟨0, _⟩ => exact e _ _
  | ⟨1, _⟩ => exact e _ _

theorem block0 (t : Fin cfg0.N) (p : Fin 1920) (q : Fin 6144) : iblk m c 0 t (ix2 p q) = V m c main_v1 (ix2 p q) := whole0 c t (V m c main_v1) p q
theorem block1 (t : Fin cfg0.N) (p : Fin 5376) (q : Fin 6144) : iblk m c 1 t (ix2 p q) = V m c main_v3 (ix2 p q) := whole1 c t (V m c main_v3) p q
theorem block2 (t : Fin cfg0.N) (p : Fin 1) (q : Fin 1) : iblk m c 2 t (ix2 p q) = V m c main_v54 (ix2 p q) := whole2 c t (V m c main_v54) p q
theorem block3 (t : Fin cfg0.N) (p : Fin 1) (q : Fin 1) : iblk m c 3 t (ix2 p q) = V m c main_v55 (ix2 p q) := whole3 c t (V m c main_v55) p q
theorem block4 (t : Fin cfg0.N) (p : Fin 1) (q : Fin 1) : iblk m c 4 t (ix2 p q) = V m c main_v56 (ix2 p q) := whole4 c t (V m c main_v56) p q
theorem block5 (t : Fin cfg0.N) (p : Fin 1) (q : Fin 1) : iblk m c 5 t (ix2 p q) = V m c main_v57 (ix2 p q) := whole5 c t (V m c main_v57) p q

/-! ## The codes and the product a point leaves -/

theorem codesX_at (t : Fin cfg0.N) (f : Fin 1920) (s : Fin 6144) :
    k0_pay2 (iblk m c 0 t) (iblk m c 3 t) (ix2 f s) = codesE4 (aX m c) (ix2 f s) := by
  rw [pay2_apply, block0, block3, V_v1, V_v55]; rfl
theorem codesY_at (t : Fin cfg0.N) (o : Fin 5376) (s : Fin 6144) :
    k0_pay3 (iblk m c 1 t) (iblk m c 5 t) (ix2 o s) = codesE5 (aY m c) (ix2 o s) := by
  rw [pay3_apply, block1, block5, V_v3, V_v57]; rfl

/-! ## The three result arrays -/

theorem outsAt6_apply (t : Fin cfg0.N) (p : Fin 1920) (q : Fin 5376) : (outsAt0 m c t).1 (ix2 p q) = weightGrad (aX m c) (aY m c) (ix2 p q) := by
  unfold outsAt0
  dsimp only
  rw [out_product, pay1_apply, block2, block4, V_v54, V_v56]
  simp only [codesX_at, codesY_at]
  rfl
theorem flushed6 (t : Fin cfg0.N) : (dats m 0 c).flushed 6 t = (cfg0.win 6).cut (grid0.coords t) (outsAt0 m c t).1 := by
  show (cfg0.win 6).cut (grid0.coords t) ((dats m 0 c).after 6 t) = _
  rw [after0_6]
/-- The part of the block that is written back is the block, -/
theorem cut6 (t : Fin cfg0.N) (A : Vec Ideal S1920x5376 .f32) (j : ((cfg0.win 6).xblock (cfg0.grid.coords t)).Idx) (p : Fin 1920) (q : Fin 5376)
    (hp : p.val = (j 0).val) (hq : q.val = (j 1).val) : (cfg0.win 6).cut (grid0.coords t) A j = A (ix2 p q) := by
  show A _ = A _
  congr 1
  funext a
  apply Fin.ext
  match a with
  | ⟨0, _⟩ => exact hp.symm
  | ⟨1, _⟩ => exact hq.symm
/-- and the array's block is the array. -/
theorem read6 (t : Fin cfg0.N) (A : Buf (Elt Ideal) ((c : Thread nD τ).loc main_v58_0)) (j : ((cfg0.win 6).xblock (cfg0.grid.coords t)).Idx) (p : Fin 1920) (q : Fin 5376)
    (hp : p.val = (j 0).val) (hq : q.val = (j 1).val) : ((cfg0.win 6).blk t).view.read (Elt Ideal) A j = A (ix2 p q) := by
  rw [View.read_apply]
  show A _ = A _
  congr 1
  funext a
  apply Fin.ext
  match a with
  | ⟨0, _⟩ => show win0_6.index t 0 * 1920 + 1 * (j 0).val = p.val; rw [(index6 t).1, hp]; omega
  | ⟨1, _⟩ => show win0_6.index t 1 * 5376 + 1 * (j 1).val = q.val; rw [(index6 t).2, hq]; omega
theorem array6 : (dats m 0 c).arrAt 6 cfg0.N = (weightGrad (aX m c) (aY m c) : Buf (Elt Ideal) ((c : Thread nD τ).loc main_v58_0)) := by
  refine (dats m 0 c).arrAt_eq_of_cover 6 _ (fun t _ => ?_) fun i => ?_
  · rw [flushed6]
    funext j
    have hj0 : (j 0).val < 1920 := (j 0).isLt
    have hj1 : (j 1).val < 5376 := (j 1).isLt
    rw [cut6 t _ j ⟨(j 0).val, hj0⟩ ⟨(j 1).val, hj1⟩ rfl rfl, read6 c t _ j ⟨(j 0).val, hj0⟩ ⟨(j 1).val, hj1⟩ rfl rfl]
    exact outsAt6_apply m c t _ _
  · have h0 : (i 0 : Nat) < 1920 := (i 0).isLt
    have h1 : (i 1 : Nat) < 5376 := (i 1).isLt
    refine ⟨t0_0, flush0_6 t0_0, ?_⟩
    show i ∈ ((View.whole main_v58_0).slice (win0_6.rect t0_0)).set
    rw [View.set_slice_whole, Rect.mem_set_unit]
    intro a
    match a with
    | ⟨0, _⟩ => show win0_6.index t0_0 0 * 1920 ≤ (i 0 : Nat) ∧ (i 0 : Nat) < win0_6.index t0_0 0 * 1920 + 1920; rw [(index6 t0_0).1]; omega
    | ⟨1, _⟩ => show win0_6.index t0_0 1 * 5376 ≤ (i 1 : Nat) ∧ (i 1 : Nat) < win0_6.index t0_0 1 * 5376 + 5376; rw [(index6 t0_0).2]; omega

theorem outsAt7_apply (t : Fin cfg0.N) (p : Fin 1920) (q : Fin 6144) : (outsAt0 m c t).2.1 (ix2 p q) = codesE4 (aX m c) (ix2 p q) := by
  unfold outsAt0
  dsimp only
  rw [out_codesX, codesX_at]
theorem flushed7 (t : Fin cfg0.N) : (dats m 0 c).flushed 7 t = (cfg0.win 7).cut (grid0.coords t) (outsAt0 m c t).2.1 := by
  show (cfg0.win 7).cut (grid0.coords t) ((dats m 0 c).after 7 t) = _
  rw [after0_7]
/-- The part of the block that is written back is the block, -/
theorem cut7 (t : Fin cfg0.N) (A : Vec Ideal S1920x6144 .fp8e4m3) (j : ((cfg0.win 7).xblock (cfg0.grid.coords t)).Idx) (p : Fin 1920) (q : Fin 6144)
    (hp : p.val = (j 0).val) (hq : q.val = (j 1).val) : (cfg0.win 7).cut (grid0.coords t) A j = A (ix2 p q) := by
  show A _ = A _
  congr 1
  funext a
  apply Fin.ext
  match a with
  | ⟨0, _⟩ => exact hp.symm
  | ⟨1, _⟩ => exact hq.symm
/-- and the array's block is the array. -/
theorem read7 (t : Fin cfg0.N) (A : Buf (Elt Ideal) ((c : Thread nD τ).loc main_v58_1)) (j : ((cfg0.win 7).xblock (cfg0.grid.coords t)).Idx) (p : Fin 1920) (q : Fin 6144)
    (hp : p.val = (j 0).val) (hq : q.val = (j 1).val) : ((cfg0.win 7).blk t).view.read (Elt Ideal) A j = A (ix2 p q) := by
  rw [View.read_apply]
  show A _ = A _
  congr 1
  funext a
  apply Fin.ext
  match a with
  | ⟨0, _⟩ => show win0_7.index t 0 * 1920 + 1 * (j 0).val = p.val; rw [(index7 t).1, hp]; omega
  | ⟨1, _⟩ => show win0_7.index t 1 * 6144 + 1 * (j 1).val = q.val; rw [(index7 t).2, hq]; omega
theorem array7 : (dats m 0 c).arrAt 7 cfg0.N = (codesE4 (aX m c) : Buf (Elt Ideal) ((c : Thread nD τ).loc main_v58_1)) := by
  refine (dats m 0 c).arrAt_eq_of_cover 7 _ (fun t _ => ?_) fun i => ?_
  · rw [flushed7]
    funext j
    have hj0 : (j 0).val < 1920 := (j 0).isLt
    have hj1 : (j 1).val < 6144 := (j 1).isLt
    rw [cut7 t _ j ⟨(j 0).val, hj0⟩ ⟨(j 1).val, hj1⟩ rfl rfl, read7 c t _ j ⟨(j 0).val, hj0⟩ ⟨(j 1).val, hj1⟩ rfl rfl]
    exact outsAt7_apply m c t _ _
  · have h0 : (i 0 : Nat) < 1920 := (i 0).isLt
    have h1 : (i 1 : Nat) < 6144 := (i 1).isLt
    refine ⟨t0_0, flush0_7 t0_0, ?_⟩
    show i ∈ ((View.whole main_v58_1).slice (win0_7.rect t0_0)).set
    rw [View.set_slice_whole, Rect.mem_set_unit]
    intro a
    match a with
    | ⟨0, _⟩ => show win0_7.index t0_0 0 * 1920 ≤ (i 0 : Nat) ∧ (i 0 : Nat) < win0_7.index t0_0 0 * 1920 + 1920; rw [(index7 t0_0).1]; omega
    | ⟨1, _⟩ => show win0_7.index t0_0 1 * 6144 ≤ (i 1 : Nat) ∧ (i 1 : Nat) < win0_7.index t0_0 1 * 6144 + 6144; rw [(index7 t0_0).2]; omega

theorem outsAt8_apply (t : Fin cfg0.N) (p : Fin 5376) (q : Fin 6144) : (outsAt0 m c t).2.2 (ix2 p q) = codesE5 (aY m c) (ix2 p q) := by
  unfold outsAt0
  dsimp only
  rw [out_codesY, codesY_at]
theorem flushed8 (t : Fin cfg0.N) : (dats m 0 c).flushed 8 t = (cfg0.win 8).cut (grid0.coords t) (outsAt0 m c t).2.2 := by
  show (cfg0.win 8).cut (grid0.coords t) ((dats m 0 c).after 8 t) = _
  rw [after0_8]
/-- The part of the block that is written back is the block, -/
theorem cut8 (t : Fin cfg0.N) (A : Vec Ideal S5376x6144 .fp8e5m2) (j : ((cfg0.win 8).xblock (cfg0.grid.coords t)).Idx) (p : Fin 5376) (q : Fin 6144)
    (hp : p.val = (j 0).val) (hq : q.val = (j 1).val) : (cfg0.win 8).cut (grid0.coords t) A j = A (ix2 p q) := by
  show A _ = A _
  congr 1
  funext a
  apply Fin.ext
  match a with
  | ⟨0, _⟩ => exact hp.symm
  | ⟨1, _⟩ => exact hq.symm
/-- and the array's block is the array. -/
theorem read8 (t : Fin cfg0.N) (A : Buf (Elt Ideal) ((c : Thread nD τ).loc main_v58_2)) (j : ((cfg0.win 8).xblock (cfg0.grid.coords t)).Idx) (p : Fin 5376) (q : Fin 6144)
    (hp : p.val = (j 0).val) (hq : q.val = (j 1).val) : ((cfg0.win 8).blk t).view.read (Elt Ideal) A j = A (ix2 p q) := by
  rw [View.read_apply]
  show A _ = A _
  congr 1
  funext a
  apply Fin.ext
  match a with
  | ⟨0, _⟩ => show win0_8.index t 0 * 5376 + 1 * (j 0).val = p.val; rw [(index8 t).1, hp]; omega
  | ⟨1, _⟩ => show win0_8.index t 1 * 6144 + 1 * (j 1).val = q.val; rw [(index8 t).2, hq]; omega
theorem array8 : (dats m 0 c).arrAt 8 cfg0.N = (codesE5 (aY m c) : Buf (Elt Ideal) ((c : Thread nD τ).loc main_v58_2)) := by
  refine (dats m 0 c).arrAt_eq_of_cover 8 _ (fun t _ => ?_) fun i => ?_
  · rw [flushed8]
    funext j
    have hj0 : (j 0).val < 5376 := (j 0).isLt
    have hj1 : (j 1).val < 6144 := (j 1).isLt
    rw [cut8 t _ j ⟨(j 0).val, hj0⟩ ⟨(j 1).val, hj1⟩ rfl rfl, read8 c t _ j ⟨(j 0).val, hj0⟩ ⟨(j 1).val, hj1⟩ rfl rfl]
    exact outsAt8_apply m c t _ _
  · have h0 : (i 0 : Nat) < 5376 := (i 0).isLt
    have h1 : (i 1 : Nat) < 6144 := (i 1).isLt
    refine ⟨t0_0, flush0_8 t0_0, ?_⟩
    show i ∈ ((View.whole main_v58_2).slice (win0_8.rect t0_0)).set
    rw [View.set_slice_whole, Rect.mem_set_unit]
    intro a
    match a with
    | ⟨0, _⟩ => show win0_8.index t0_0 0 * 5376 ≤ (i 0 : Nat) ∧ (i 0 : Nat) < win0_8.index t0_0 0 * 5376 + 5376; rw [(index8 t0_0).1]; omega
    | ⟨1, _⟩ => show win0_8.index t0_0 1 * 6144 ≤ (i 1 : Nat) ∧ (i 1 : Nat) < win0_8.index t0_0 1 * 6144 + 6144; rw [(index8 t0_0).2]; omega

end Cert.ReferenceIdeal.Run

end
-- ==== Proof.Algebraic.lean ====
/- The equation: over the extended reals the kernel's program and the reference, from the same two arguments, end with the
   same five results, each the function Spec.lean states. -/
module

public import proofs.«01_k».proof.Defs
public import proofs.«01_k».proof.Proof.KernelValue
public import proofs.«01_k».proof.Proof.ReferenceCall

@[expose] public section

set_option maxRecDepth 16384

noncomputable section

namespace Cert.Proof

open Idealize.ShloMosaic Idealize.ShloMosaic.TcCoe Idealize.SL.Sem Cert.Spec

local instance idealFacts : Cert.KernelIdeal.Facts := Cert.KernelIdeal.Gen.facts
local instance referenceFacts : Cert.ReferenceIdeal.Facts := Cert.ReferenceIdeal.Gen.facts

section Kernel

open Cert.KernelIdeal Cert.KernelIdeal.Gen Cert.KernelIdeal.Run

variable (m : (ℓ : Loc nD τ sig) → Buf (Elt Ideal) ℓ) (ρ : Dev nD → PrngReg)

/-- Every execution of the kernel's program ends with its five results at Spec.lean's functions of its arguments, and the
    arguments as they were. -/
theorem kernel_value : θ_run (defs (F := Ideal)) (onTc (τ := τ) (main (F := Ideal))) ⟨m, fun _ => 0, ρ⟩ (fun r => ∀ c : Dev nD,
    r.2.mem ((c.tc : Thread nD τ).loc main_v71_0) = weightGrad (X m c) (Y m c)
    ∧ r.2.mem ((c.tc : Thread nD τ).loc main_v69) = codesE4 (X m c)
    ∧ r.2.mem ((c.tc : Thread nD τ).loc main_v29) = (fun _ => scaleOf rX (X m c))
    ∧ r.2.mem ((c.tc : Thread nD τ).loc main_v71_1) = codesE5 (Y m c)
    ∧ r.2.mem ((c.tc : Thread nD τ).loc main_v62) = (fun _ => scaleOf rY (Y m c))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨(h.1 c _ (mem_uc main_v71_0 (by decide))).trans (value_v71_0 m ρ c),
     (h.1 c _ (mem_uc main_v69 (by decide))).trans (value_v69 m ρ c),
     (h.1 c _ (mem_uc main_v29 (by decide))).trans (value_v29 m ρ c),
     (h.1 c _ (mem_uc main_v71_1 (by decide))).trans (value_v71_1 m ρ c),
     (h.1 c _ (mem_uc main_v62 (by decide))).trans (value_v62 m ρ c),
     (h.1 c _ (mem_uc main_arg0 (by decide))).trans (W14_main_arg0 m ρ c),
     (h.1 c _ (mem_uc main_arg1 (by decide))).trans (W14_main_arg1 m ρ c)⟩) (run m ρ)

end Kernel

section Reference

open Cert.ReferenceIdeal Cert.ReferenceIdeal.Gen Cert.ReferenceIdeal.Run

variable (m : (ℓ : Loc nD τ sig) → Buf (Elt Ideal) ℓ) (ρ : Dev nD → PrngReg)

/-- Every execution of the reference ends with its five results at the same functions of its arguments. -/
theorem reference_value : θ_run (defs (F := Ideal)) (onTc (τ := τ) (main (F := Ideal))) ⟨m, fun _ => 0, ρ⟩ (fun r => ∀ c : Dev nD,
    r.2.mem ((c.tc : Thread nD τ).loc main_v58_0) = weightGrad (aX m c) (aY m c)
    ∧ r.2.mem ((c.tc : Thread nD τ).loc main_v58_1) = codesE4 (aX m c)
    ∧ r.2.mem ((c.tc : Thread nD τ).loc main_v25) = (fun _ => scaleOf rX (aX m c))
    ∧ r.2.mem ((c.tc : Thread nD τ).loc main_v58_2) = codesE5 (aY m c)
    ∧ r.2.mem ((c.tc : Thread nD τ).loc main_v50) = (fun _ => scaleOf rY (aY m c))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c =>
    ⟨((h c).1 6).trans (array6 m c), ((h c).1 7).trans (array7 m c),
     ((h c).2 main_v25 (Pipeline.mem_restRefs_of main_v25 (by decide) (by decide))).trans (funext fun j => V_v25 m c j),
     ((h c).1 8).trans (array8 m c),
     ((h c).2 main_v50 (Pipeline.mem_restRefs_of main_v50 (by decide) (by decide))).trans (funext fun j => V_v50 m c j),
     ((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Reference

/-- The two programs compute the same five results from the same arguments. -/
theorem algebraic : Cert.algebraic_KernelIdeal_ReferenceIdeal := by
  intro m g m' g' _ h
  have hx : ∀ c, Cert.ReferenceIdeal.Run.aX m' c = Cert.KernelIdeal.Run.X m c := fun c => congrArg Cert.ReferenceIdeal.Run.X (h c).1
  have hy : ∀ c, Cert.ReferenceIdeal.Run.aY m' c = Cert.KernelIdeal.Run.Y m c := fun c => congrArg Cert.ReferenceIdeal.Run.Y (h c).2
  have hr := reference_value m' g'
  simp only [hx, hy] at hr
  exact ⟨_, _, _, _, _, kernel_value m g, hr⟩

end Cert.Proof

end
-- ==== Proof.lean ====
module

public import proofs.«01_k».proof.Defs
public import proofs.«01_k».proof.Proof.SameProgram
public import proofs.«01_k».proof.Proof.Algebraic
public import proofs.«01_k».proof.Proof.Gen.ReferenceIdeal
public import proofs.«01_k».proof.Proof.Gen.ReferenceIdeal.Frame

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  quiescent_kernel, quiescent_kernelIdeal, fun m g _ => Cert.ReferenceIdeal.Gen.frame m g, trivial, algebraic⟩

end Cert.Proof

end
